-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S8192_d1 : S8192x256.ReducesTo [1] S8192
  h_S_ : 0 < S_.numel
  bcast_S_S8192 : S_.BroadcastsInDim S8192 (![] : Fin 0 → Fin S8192.rank)

variable [Facts]

def fn {F : FTy → Type} [FloatOps F] (main_arg0 : FVec F S8192x256 .f32) (main_arg1 : IVec S8192 32) (main_arg2 : IVec S8192 32) : IVec S8192 1 :=
  let main_cst : FVec F S_ .f32 := constant S_ .f32 0x00000000#32
  let main_v0 : FVec F S8192x256 .f32 := broadcastInDim S8192x256 ![] bcast_S_S8192x256 main_cst
  let main_v1 : IVec S8192x256 1 := cmpf .une main_arg0 main_v0
  let main_c : IVec S_ 1 := constantI S_ 1 0#1
  let main_v2 : IVec S8192 1 := (fun x v => Host.reduce IntOp.ori x v reducesTo_S8192x256_S8192_d1 h_S_) main_v1 main_c
  let main_c_0 : IVec S_ 32 := constantI S_ 32 0#32
  let main_v3 : IVec S8192 32 := broadcastInDim S8192 ![] bcast_S_S8192 main_c_0
  let main_v4 : IVec S8192 1 := cmpi .sge main_arg1 main_v3
  let main_c_1 : IVec S_ 32 := constantI S_ 32 50#32
  let main_v5 : IVec S8192 32 := broadcastInDim S8192 ![] bcast_S_S8192 main_c_1
  let main_v6 : IVec S8192 1 := cmpi .slt main_arg1 main_v5
  let main_v7 : IVec S8192 1 := andi main_v4 main_v6
  let main_c_2 : IVec S_ 32 := constantI S_ 32 0#32
  let main_v8 : IVec S8192 32 := broadcastInDim S8192 ![] bcast_S_S8192 main_c_2
  let main_v9 : IVec S8192 1 := cmpi .sge main_arg2 main_v8
  let main_c_3 : IVec S_ 32 := constantI S_ 32 10#32
  let main_v10 : IVec S8192 32 := broadcastInDim S8192 ![] bcast_S_S8192 main_c_3
  let main_v11 : IVec S8192 1 := cmpi .slt main_arg2 main_v10
  let main_v12 : IVec S8192 1 := andi main_v9 main_v11
  let main_v13 : IVec S8192 1 := andi main_v2 main_v7
  let main_v14 : IVec S8192 1 := andi main_v13 main_v12
  main_v14
-- ==== Kernel.lean ====
abbrev S8192x256 : Shape := ⟨2, ![8192, 256]⟩
abbrev S8192 : Shape := ⟨1, ![8192]⟩
abbrev S_ : Shape := ⟨0, ![]⟩
abbrev S1x8192 : Shape := ⟨2, ![1, 8192]⟩
abbrev S1x128 : Shape := ⟨2, ![1, 128]⟩
abbrev S256x8192 : Shape := ⟨2, ![256, 8192]⟩
abbrev S1024x1 : Shape := ⟨2, ![1024, 1]⟩
abbrev S1x512 : Shape := ⟨2, ![1, 512]⟩
abbrev S1x1024 : Shape := ⟨2, ![1, 1024]⟩
abbrev S1024x1024 : Shape := ⟨2, ![1024, 1024]⟩
abbrev S1024 : Shape := ⟨1, ![1024]⟩
abbrev S1x1 : Shape := ⟨2, ![1, 1]⟩
abbrev S256x1024 : Shape := ⟨2, ![256, 1024]⟩
abbrev S1024x128 : Shape := ⟨2, ![1024, 128]⟩
abbrev S256x512 : Shape := ⟨2, ![256, 512]⟩
abbrev S1024x512 : Shape := ⟨2, ![1024, 512]⟩
abbrev S1 : Shape := ⟨1, ![1]⟩

abbrev nBuf : Space → Nat
  | .hbm => 11
  | .vmem => 4
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S8192, .i32⟩
  | .hbm, ⟨7, _⟩ => ⟨S1x8192, .i32⟩
  | .hbm, ⟨8, _⟩ => ⟨S1x128, .f32⟩
  | .hbm, ⟨9, _⟩ => ⟨S1x1, .f32⟩
  | .hbm, ⟨10, _⟩ => ⟨S_, .f32⟩
  | .local _ .vmem, ⟨0, _⟩ => ⟨S8192x256, .f32⟩
  | .local _ .vmem, ⟨1, _⟩ => ⟨S1x8192, .i32⟩
  | .local _ .vmem, ⟨2, _⟩ => ⟨S1x128, .f32⟩
  | .local _ .vmem, ⟨3, _⟩ => ⟨S256x8192, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c8_i32 : BitVec 32 := 8#32
  let v115 : BitVec 32 := Scalar.addi c0_i32 c8_i32
  let c1_i32 : BitVec 32 := 1#32
  ⟨c0_i32, v115, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1024_i32 : BitVec 32 := 1024#32
  let v129 : BitVec 32 := Scalar.muli arg5 c1024_i32
  v129
def k0_off1 (k0_t1 : Fin k0_t1_loop.trips) : Fin 2 → Nat :=
  let c0_46 : Index := 0#32
  let c0_i32 : BitVec 32 := 0#32
  let c1_i32 : BitVec 32 := 1#32
  let arg5 : BitVec 32 := Scf.iv c0_i32 c1_i32 k0_t1
  let c1024_i32 : BitVec 32 := 1024#32
  let v129 : BitVec 32 := Scalar.muli arg5 c1024_i32
  let v130 : BitVec 32 := v129
  let v131 : Index := Scalar.indexCast v130
  ![0, v131.toNat]
def k0_off2 (k0_t1 : Fin k0_t1_loop.trips) : Fin 2 → Nat :=
  let c0_47 : Index := 0#32
  let c0_i32 : BitVec 32 := 0#32
  let c1_i32 : BitVec 32 := 1#32
  let arg5 : BitVec 32 := Scf.iv c0_i32 c1_i32 k0_t1
  let c1024_i32 : BitVec 32 := 1024#32
  let v129 : BitVec 32 := Scalar.muli arg5 c1024_i32
  let v130 : BitVec 32 := v129
  let v133 : Index := Scalar.indexCast v130
  ![0, v133.toNat]
def k0_off3 (k0_t1 : Fin k0_t1_loop.trips) (c0_i32_138 : BitVec 32) : Fin 2 → Nat :=
  let c0_139 : Index := 0#32
  let c0_i32 : BitVec 32 := 0#32
  let c1_i32 : BitVec 32 := 1#32
  let arg5 : BitVec 32 := Scf.iv c0_i32 c1_i32 k0_t1
  let c1024_i32 : BitVec 32 := 1024#32
  let v129 : BitVec 32 := Scalar.muli arg5 c1024_i32
  let v130 : BitVec 32 := v129
  let v555 : BitVec 32 := Scalar.addi v130 c0_i32_138
  let v556 : Index := Scalar.indexCast v555
  ![0, v556.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192, .i32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x256, .f32⟩
  | .hbm, ⟨9, _⟩ => ⟨S8192x256, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S1x8192, .i32⟩
  | .hbm, ⟨29, _⟩ => ⟨S8192x1, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S8192x8192, .i1⟩
  | .hbm, ⟨39, _⟩ => ⟨S8192x8192, .i1⟩
  | .hbm, ⟨40, _⟩ => ⟨S8192x8192, .i1⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x8192, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .i1⟩
  | .hbm, ⟨64, _⟩ => ⟨S_, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S8192, .i32⟩
  | .hbm, ⟨75, _⟩ => ⟨S_, .i32⟩
  | .hbm, ⟨76, _⟩ => ⟨S_, .i32⟩
  | .hbm, ⟨77, _⟩ => ⟨S_, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .i32⟩
  | .hbm, ⟨85, _⟩ => ⟨S_, .i32⟩
  | .hbm, ⟨86, _⟩ => ⟨S_, .f32⟩
  | .hbm, ⟨87, _⟩ => ⟨S_, .f32⟩
  | .hbm, ⟨88, _⟩ => ⟨S_, .i32⟩
  | .hbm, ⟨89, _⟩ => ⟨S_, .i1⟩
  | .hbm, ⟨90, _⟩ => ⟨S_, .f32⟩
  | .hbm, ⟨91, _⟩ => ⟨S_, .f32⟩
  | .hbm, ⟨92, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_call2_v0 : Ref sig .tc := ⟨.hbm, 65, rfl⟩
abbrev main_call2_v1 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_cst_12 : Ref sig .tc := ⟨.hbm, 77, rfl⟩
abbrev main_call3_v0 : Ref sig .tc := ⟨.hbm, 78, rfl⟩
abbrev main_call3_v1 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_15 : Ref sig .tc := ⟨.hbm, 88, rfl⟩
abbrev main_v58 : Ref sig .tc := ⟨.hbm, 89, rfl⟩
abbrev main_cst_16 : Ref sig .tc := ⟨.hbm, 90, rfl⟩
abbrev main_call4_v0 : Ref sig .tc := ⟨.hbm, 91, rfl⟩
abbrev main_v59 : Ref sig .tc := ⟨.hbm, 92, rfl⟩

abbrev nD : Nat := 1
abbrev τ : Topo := Topo.v7x

variable {F : FTy → Type} [FloatOps F]
-- ==== Proof.KernelTrip.lean ====
/-
  WHAT ONE TRIP OF THE KERNEL'S LOOP COMPUTES, AS ARRAYS. One trip takes a block of 1024 rows, multiplies its scaled
  features with all 8192 columns sixteen tiles of 512 at a time, folds every tile to 128 lanes, adds the tiles up,
  takes the diagonal entries off again, and adds the block's contribution to the carried total and count. The compact
  forms below name these pieces; `trip` says the generated trip is exactly them.
-/
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Run

open Cert.KernelIdeal Cert.KernelIdeal.Gen Idealize.ShloMosaic Idealize.ShloMosaic.TcCoe Idealize.SL.Sem

variable {F : FTy → Type} [FloatOps F] [Named F]

/-- The product of 1024 columns of the scaled features with 512 columns of them. -/
def tile (lhs : Vec F S256x1024 .bf16) (rhs : Vec F S256x512 .bf16) : FVec F S1024x512 .f32 :=
  matmul dot_S256x1024_S256x512_S1024x512_0_0_1_1_n_n none lhs rhs (constant S1024x512 .f32 0x00000000#32)

/-- A tile of 512 lanes folded to 128. -/
def fold (x : FVec F S1024x512 .f32) : FVec F S1024x128 .f32 :=
  addf (addf (extractStridedSlice S1024x128 ![0, 0] x slices_S1024x512_o0_0_S1024x128)
      (extractStridedSlice S1024x128 ![0, 128] x slices_S1024x512_o0_128_S1024x128))
    (addf (extractStridedSlice S1024x128 ![0, 256] x slices_S1024x512_o0_256_S1024x128)
      (extractStridedSlice S1024x128 ![0, 384] x slices_S1024x512_o0_384_S1024x128))

/-- Four folded tiles added up, from tile `4 g` on. -/
def group (f : Fin 16 → FVec F S1024x128 .f32) (a b c d : Fin 16) : FVec F S1024x128 .f32 :=
  addf (addf (addf (f a) (f b)) (f c)) (f d)

/-- The sixteen folded tiles added up in the kernel's order. -/
def total (f : Fin 16 → FVec F S1024x128 .f32) : FVec F S1024x128 .f32 :=
  addf (addf (addf (addf (broadcast S1024x128 (Scalar.ofBits .f32 0x00000000#32)) (group f 0 1 2 3)) (group f 4 5 6 7))
    (group f 8 9 10 11)) (group f 12 13 14 15)

/-- Tile `j` of the scaled features: columns `512 j` to `512 j + 511`. -/
def colTile (sc : Vec F S256x8192 .bf16) (j : Fin 16) : Vec F S256x512 .bf16 :=
  View.ld sc (Rect.unit (s := S256x8192) ![0, 512 * j.val] S256x512.size (by
    intro a; have := j.isLt; match a with | ⟨0, _⟩ => exact Nat.le_of_eq rfl | ⟨1, _⟩ => show 512 * j.val + 512 ≤ 8192; omega))

/-- Tile `j` of the labels. -/
def labTile (lab : Vec F S1x8192 .i32) (j : Fin 16) : Vec F S1x512 .i32 :=
  View.ld lab (Rect.unit (s := S1x8192) ![0, 512 * j.val] S1x512.size (by
    intro a; have := j.isLt; match a with | ⟨0, _⟩ => exact Nat.le_of_eq rfl | ⟨1, _⟩ => show 512 * j.val + 512 ≤ 8192; omega))

/-- Block `k` of the scaled features: columns `1024 k` to `1024 k + 1023`. -/
def rowBlock (sc : Vec F S256x8192 .bf16) (k : Fin k0_t1_loop.trips) : Vec F S256x1024 .bf16 :=
  View.ld sc (Rect.unit (s := S256x8192) (k0_off1 k) S256x1024.size (k0_off1_inb k))

/-- Block `k` of the labels, as a column. -/
def rowLab (lab : Vec F S1x8192 .i32) (k : Fin k0_t1_loop.trips) : IVec S1024x1 32 :=
  k0_pay2 (F := F) (View.ld lab (Rect.unit (s := S1x8192) (k0_off2 k) S1x1024.size (k0_off2_inb k)))

/-- Half `r` of the diagonal block's columns of the scaled features. -/
def diagTile (sc : Vec F S256x8192 .bf16) (k : Fin k0_t1_loop.trips) (r : Fin 2) : Vec F S256x512 .bf16 :=
  View.ld sc (Rect.unit (s := S256x8192) (k0_off3 k (BitVec.ofNat 32 (512 * r.val))) S256x512.size (k0_off3_inb k r))

/-- Where a row's label is a column's label. -/
def same (rl : IVec S1024x1 32) (ct : Vec F S1x512 .i32) : IVec S1024x512 1 :=
  cmpi .eq (broadcastTo S1024x512 rl broadcasts_S1024x1_S1024x512)
    (broadcastTo S1024x512 (shapeCast S1x512 (ct : IVec S1x512 32) shapeCasts_S1x512_S1x512) broadcasts_S1x512_S1024x512)

/-- Where a row of the block is the column, in half `h` of the diagonal block. -/
def onDiag (v14 : IVec S1024x1 32) (v15 : IVec S1x512 32) (h : BitVec 32) : IVec S1024x512 1 :=
  cmpi .eq (broadcastTo S1024x512 v14 broadcasts_S1024x1_S1024x512)
    (broadcastTo S1024x512 (addi v15 (broadcast S1x512 h)) broadcasts_S1x512_S1024x512)

/-- A tile kept where the mask is set, zero elsewhere. -/
def keep (b : IVec S1024x512 1) (x : FVec F S1024x512 .f32) : FVec F S1024x512 .f32 :=
  select b x (broadcast S1024x512 (Scalar.ofBits .f32 0x00000000#32))

/-- The block's exponentials, folded and added, the diagonal's taken off. -/
def expAcc (v14 : IVec S1024x1 32) (v15 : IVec S1x512 32) (sc : Vec F S256x8192 .bf16) (k : Fin k0_t1_loop.trips) :
    FVec F S1024x128 .f32 :=
  subf (subf (total fun j => fold (exp2 (tile (rowBlock sc k) (colTile sc j))))
      (fold (keep (onDiag v14 v15 0#32) (exp2 (tile (rowBlock sc k) (diagTile sc k 0))))))
    (fold (keep (onDiag v14 v15 512#32) (exp2 (tile (rowBlock sc k) (diagTile sc k 1)))))

/-- The block's similarities with equal labels, folded and added, the diagonal's taken off. -/
def posAcc (v14 : IVec S1024x1 32) (v15 : IVec S1x512 32) (lab : Vec F S1x8192 .i32) (sc : Vec F S256x8192 .bf16)
    (k : Fin k0_t1_loop.trips) : FVec F S1024x128 .f32 :=
  subf (subf (total fun j => fold (keep (same (F := F) (rowLab lab k) (labTile lab j)) (tile (rowBlock sc k) (colTile sc j))))
      (fold (keep (onDiag v14 v15 0#32) (tile (rowBlock sc k) (diagTile sc k 0)))))
    (fold (keep (onDiag v14 v15 512#32) (tile (rowBlock sc k) (diagTile sc k 1))))

/-- One trip of the loop: the block's contribution added to the carried total and count. -/
theorem trip (c : Dev nD) (i : grid0.Coords) (arg1 : Memref sig .tc .vmem S8192x256 .f32) (harg1 : arg1.IsWhole) (arg2 : Memref sig .tc .vmem S1x8192 .i32) (harg2 : arg2.IsWhole) (arg3 : Memref sig .tc .vmem S1x128 .f32) (harg3 : arg3.IsWhole) (arg4 : Memref sig .tc .vmem S256x8192 .bf16) (harg4 : arg4.IsWhole) (v14 : IVec S1024x1 32) (v15 : IVec S1x512 32) (v16 : IVec S1x1024 32) (v77 : FVec F S1x1024 .f32) (v83 : IVec S1024x1024 1) (v90 : Vec F S1x1024 .i32) (v102 : Vec F S1x1024 .i32) (x1 : Vec F S1x8192 .i32) (sc : Vec F S256x8192 .bf16) (k : Fin k0_t1_loop.trips) (acc : FVec F S1x1 .f32 × FVec F S1x1 .f32) :
    tripR_k0_t1 (F := F) Variants.none c none i arg1 harg1 arg2 harg2 arg3 harg3 arg4 harg4 v14 v15 v16 v77 v83 v90 v102
        (harg2.unread x1) (harg4.unread sc) k acc
      = (k0_pay77 v16 v77 v83 v90 v102 acc.1 (rowLab x1 k) (expAcc v14 v15 sc k) (posAcc v14 v15 x1 sc k),
          k0_pay78 v16 v77 v83 v90 v102 acc.2 (rowLab x1 k)) := by
  unfold tripR_k0_t1 trip_k0_t1
  frame_out
  rfl

end Cert.KernelIdeal.Run

end
-- ==== Proof.KernelRun.lean ====
/-
  WHAT THE KERNEL'S RUN LEAVES IN ITS RESULT, as arrays: the eight trips of the loop, each adding its block's
  contribution (`KernelTrip.lean`), from the scaled features the body first writes into its scratch array and from the
  histogram of the labels, and the host operations around the region.
-/
module

public import proofs.«01_k».proof.Proof.KernelTrip
public import Idealize.ShloMosaic.Lib.VecWindow

@[expose] public section

set_option maxRecDepth 16384

noncomputable section

namespace Cert.KernelIdeal.Run

open Cert.KernelIdeal Cert.KernelIdeal.Gen Idealize.ShloMosaic Idealize.ShloMosaic.TcCoe Idealize.SL.Sem

variable {F : FTy → Type} [FloatOps F] [Named F]

/-- The row index of a block. -/
def rowIdx : IVec S1024x1 32 := iota .tc S1024x1 32 [0] iota_S1024x1_d0_w32
/-- The lane index of a tile. -/
def laneIdx : IVec S1x512 32 := iota .tc S1x512 32 [1] iota_S1x512_d1_w32
/-- The bin index of the histogram. -/
def binIdx : IVec S1x1024 32 := iota .tc S1x1024 32 [1] iota_S1x1024_d1_w32

/-- Chunk `q` of the labels: columns `1024 q` to `1024 q + 1023`. -/
def chunk (lab : Vec F S1x8192 .i32) (q : Fin 8) : Vec F S1x1024 .i32 :=
  View.ld lab (Rect.unit (s := S1x8192) ![0, 1024 * q.val] S1x1024.size (by
    intro a; have := q.isLt; match a with | ⟨0, _⟩ => exact Nat.le_of_eq rfl | ⟨1, _⟩ => show 1024 * q.val + 1024 ≤ 8192; omega))

/-- The first five chunks' histogram. -/
def hist5 (lab : Vec F S1x8192 .i32) : FVec F S1x1024 .f32 :=
  k0_pay72 (F := F) binIdx (k0_pay70 (chunk lab 0)) (k0_pay71 (chunk lab 1)) (chunk lab 2) (chunk lab 3) (chunk lab 4)

/-- Where the sixth chunk's labels are the bins. -/
def bit5 (lab : Vec F S1x8192 .i32) : IVec S1024x1024 1 := k0_pay73 (F := F) binIdx (chunk lab 5)

/-- The carried total and count after the first `n` trips, from the scaled features and the labels. -/
def state (lab : Vec F S1x8192 .i32) (sc : Vec F S256x8192 .bf16) : ℕ → FVec F S1x1 .f32 × FVec F S1x1 .f32
  | 0 => (k0_pay74, k0_pay74)
  | k + 1 => if h : k < k0_t1_loop.trips then
      (k0_pay77 binIdx (hist5 lab) (bit5 lab) (chunk lab 6) (chunk lab 7) (state lab sc k).1 (rowLab lab ⟨k, h⟩)
          (expAcc rowIdx laneIdx sc ⟨k, h⟩) (posAcc rowIdx laneIdx lab sc ⟨k, h⟩),
        k0_pay78 binIdx (hist5 lab) (bit5 lab) (chunk lab 6) (chunk lab 7) (state lab sc k).2 (rowLab lab ⟨k, h⟩))
    else state lab sc k

/-- The loop's carried state after `n` trips is `state n`. -/
theorem loop (c : Dev nD) (i : grid0.Coords) (arg1 : Memref sig .tc .vmem S8192x256 .f32) (harg1 : arg1.IsWhole)
    (arg2 : Memref sig .tc .vmem S1x8192 .i32) (harg2 : arg2.IsWhole) (arg3 : Memref sig .tc .vmem S1x128 .f32)
    (harg3 : arg3.IsWhole) (arg4 : Memref sig .tc .vmem S256x8192 .bf16) (harg4 : arg4.IsWhole)
    (lab : Vec F S1x8192 .i32) (sc : Vec F S256x8192 .bf16) (n : ℕ) (hn : n ≤ k0_t1_loop.trips) :
    st_k0_t1 (F := F) Variants.none c none i arg1 harg1 arg2 harg2 arg3 harg3 arg4 harg4 rowIdx laneIdx binIdx
        (hist5 lab) (bit5 lab) (chunk lab 6) (chunk lab 7) (harg2.unread lab) (harg4.unread sc) (k0_pay74, k0_pay74) n
      = state lab sc n := by
  induction n with
  | zero => exact st_k0_t1_zero ..
  | succ k ih =>
    rw [st_k0_t1_succ Variants.none c none i arg1 harg1 arg2 harg2 arg3 harg3 arg4 harg4 _ _ _ _ _ _ _ _ _ _ ⟨k, hn⟩,
      trip, ih (by omega), state, dif_pos (show k < k0_t1_loop.trips from hn)]

/-- The result array: the loss on all 128 lanes. -/
def outArr (lab : Vec F S1x8192 .i32) (sc : Vec F S256x8192 .bf16) : FVec F S1x128 .f32 :=
  k0_pay1 (state lab sc 8).2 (k0_pay79 (state lab sc 8).1 (state lab sc 8).2) k0_pay80

/-- The loop has eight trips. -/
theorem trips_eq : k0_t1_loop.trips = 8 := by decide +kernel

/-- The labels joined: sixteen times the concept plus the class, as one row. -/
def joined (a1 a2 : IVec S8192 32) : IVec S1x8192 32 :=
  shapeCast S1x8192 (addi (muli a1 (broadcast S8192 16#32)) a2) (by decide)

variable (m : (ℓ : Loc nD τ sig) → Buf (Elt F) ℓ)

/-- The features' block is the features. -/
theorem blk0 (c : Dev nD) (t : Fin cfg0.N) : (iblk m c 0 t : Vec F S8192x256 .f32) = m ((c.tc : Thread nD τ).loc main_arg0) := by
  rcases fin_N0 t with rfl
  funext y
  unfold iblk
  blk_simp
  have hy : (win0_0.blk t0_0).view.emb y = y :=
    funext fun a => Fin.ext (Pipeline.Window.rect_emb_val_of_index_zero win0_0 t0_0 a
      ((by decide +kernel : ∀ a, win0_0.index t0_0 a = 0) a) y)
  rw [hy]
  entry_read
  rfl

/-- The labels' block is the joined labels. -/
theorem blk1 (c : Dev nD) (t : Fin cfg0.N) : (iblk m c 1 t : Vec F S1x8192 .i32)
    = joined (m ((c.tc : Thread nD τ).loc main_arg1)) (m ((c.tc : Thread nD τ).loc main_arg2)) := by
  rcases fin_N0 t with rfl
  funext y
  unfold iblk
  blk_simp
  have hy : (win0_1.blk t0_0).view.emb y = y :=
    funext fun a => Fin.ext (Pipeline.Window.rect_emb_val_of_index_zero win0_1 t0_0 a
      ((by decide +kernel : ∀ a, win0_1.index t0_0 a = 0) a) y)
  rw [hy]
  have h : StableHlo.after hostOps0 (fun b => m (c, b)) (Proc.tc.devRef main_v3)
      = joined (m ((c.tc : Thread nD τ).loc main_arg1)) (m ((c.tc : Thread nD τ).loc main_arg2)) := by
    after_results
    rfl
  exact congrFun h y

/-- The result array after the region. -/
theorem array (c : Dev nD) : (dats m 0 c).arrAt 2 (cfgs 0).N
    = outArr (joined (m ((c.tc : Thread nD τ).loc main_arg1)) (m ((c.tc : Thread nD τ).loc main_arg2)))
        (k0_pay69 (m ((c.tc : Thread nD τ).loc main_arg0))) := by
  refine (dats m 0 c).arrAt_eq_of_covers 2 _ (by decide +kernel) fun t hf y => ?_
  have hb0 := blk0 m c t
  have hb1 := blk1 m c t
  blk_simp
  rw [after0_2]
  unfold outsAt0
  frame_out
  have hs : scM0_0.IsWhole := Memref.isWhole_whole _
  have hw : (View.whole cc0_scratch0).writes (Elt F) (View.whole cc0_scratch0).junk
      [⟨Rect.unit ![0, 0] ![256, 8192] inb_S256x8192_S256x8192_0_0, k0_pay69 (iblk m c 0 t)⟩]
      = hs.unread (k0_pay69 (iblk m c 0 t)) :=
    hs.eq_unread (View.read_writes_full (View.whole cc0_scratch0) _ (off := ![0, 0]) inb_S256x8192_S256x8192_0_0 _ [])
  rw [hw]
  refine (congrArg (fun st => k0_pay1 st.2 (k0_pay79 st.1 st.2) k0_pay80 y)
    (loop c (grid0.coords t) (ms0_0 t) (hs0_0 t) (ms0_1 t) (hs0_1 t) (ms0_2 t) (hs0_2 t) scM0_0 hs (iblk m c 1 t)
      (k0_pay69 (iblk m c 0 t)) k0_t1_loop.trips le_rfl)).trans ?_
  rw [hb0, hb1, trips_eq]
  rcases fin_N0 t with rfl
  have hy : ((View.whole main_v4).slice (win0_2.rect t0_0)).emb y = y :=
    funext fun a => Fin.ext (Pipeline.Window.rect_emb_val_of_index_zero win0_2 t0_0 a
      ((by decide +kernel : ∀ a, win0_2.index t0_0 a = 0) a) y)
  rw [hy]
  rfl

/-- The lines after the region read the loss off the first lane. -/
theorem tail (c : Dev nD) : Pipeline.afterTail₀ cfgs (dats m) 0 (V0 m) [hostOps1] c main_v6
  = fun i => outArr (joined (m ((c.tc : Thread nD τ).loc main_arg1)) (m ((c.tc : Thread nD τ).loc main_arg2)))
        (k0_pay69 (m ((c.tc : Thread nD τ).loc main_arg0))) (ValueIdx.ix2 0 0) := by
  unfold Pipeline.afterTail₀
  show StableHlo.after hostOps1 _ _ = _
  rw [hostOps1]
  after_results
  rw [show Pipeline.withArrays (cfgs 0).spec c (V0 m c) (fun w => (dats m 0 c).arrAt w (cfgs 0).N) (Proc.tc.devRef main_v4)
    = (dats m 0 c).arrAt 2 (cfgs 0).N from
      Pipeline.withArrays_arr (cfgs 0).spec (by decide) c (V0 m c) (fun w => (dats m 0 c).arrAt w (cfgs 0).N) 2, array]
  rfl

/-- The lines around the region leave argument 1 alone. -/
theorem keep1 (c : Dev nD) : Pipeline.afterTail₀ cfgs (dats m) 0 (V0 m) [hostOps1] c main_arg1
    = m ((c.tc : Thread nD τ).loc main_arg1) := by
  unfold Pipeline.afterTail₀
  show StableHlo.after hostOps1 _ _ = _
  rw [hostOps1]
  after_results
  rw [Pipeline.withArrays_of_ne _ _ _ _ main_arg1 (by decide)]
  show StableHlo.after hostOps0 _ _ = _
  after_results

/-- The lines around the region leave argument 2 alone. -/
theorem keep2 (c : Dev nD) : Pipeline.afterTail₀ cfgs (dats m) 0 (V0 m) [hostOps1] c main_arg2
    = m ((c.tc : Thread nD τ).loc main_arg2) := by
  unfold Pipeline.afterTail₀
  show StableHlo.after hostOps1 _ _ = _
  rw [hostOps1]
  after_results
  rw [Pipeline.withArrays_of_ne _ _ _ _ main_arg2 (by decide)]
  show StableHlo.after hostOps0 _ _ = _
  after_results

/-- THE RUN: the result is the loss, from the features' scaled form and the joined labels; the arguments end unchanged. -/
theorem run (ρ : Dev nD → PrngReg) : θ_run defs (onTc (τ := τ) (main (F := F))) ⟨m, fun _ => 0, ρ⟩ (fun r => ∀ c : Dev nD,
      r.2.mem ((c.tc : Thread nD τ).loc main_v6)
        = (fun _ => outArr (joined (m ((c.tc : Thread nD τ).loc main_arg1)) (m ((c.tc : Thread nD τ).loc main_arg2)))
            (k0_pay69 (m ((c.tc : Thread nD τ).loc main_arg0))) (ValueIdx.ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from Cert.KernelIdeal.Gen.run_main m ρ
  · exact tail m c
  · exact keep1 m c
  · exact keep2 m c

end Cert.KernelIdeal.Run

end
-- ==== Proof.KernelAt.lean ====
/-
  THE KERNEL'S PIECES READ AT AN INDEX, over the extended reals: the scaled features, the tiles and their folds, the
  blocks and chunks, the counts, what a trip adds, and the result.
-/
module

public import proofs.«01_k».proof.Proof.KernelRun
public import Idealize.ShloMosaic.Lib.Pointwise
public import Idealize.ShloMosaic.Lib.ValueIdx
public import Idealize.ShloMosaic.Lib.IdealHost

@[expose] public section

set_option maxRecDepth 16384

noncomputable section

open scoped BigOperators

namespace Cert.KernelIdeal.Run

open Cert.KernelIdeal Cert.KernelIdeal.Gen Idealize.ShloMosaic Idealize.ShloMosaic.TcCoe Idealize.SL.Sem

/-- The features over their norms, times the scale, the other way round. -/
theorem scaled_apply (x : Vec Ideal S8192x256 .f32) (k : Fin 256) (i : Fin 8192) :
    k0_pay69 x (ix2 k i) = x (ix2 i k) * (Ideal.rsqrt (∑ q : Fin 256, x (ix2 i q) * x (ix2 i q)) * Ideal.ofBits .f32 0x40914630#32) := by
  unfold k0_pay69
  pointwise

/-- A tile of similarities. -/
theorem tile_apply (lhs : Vec Ideal S256x1024 .bf16) (rhs : Vec Ideal S256x512 .bf16) (r : Fin 1024) (c : Fin 512) :
    tile lhs rhs (ix2 r c) = ∑ k : Fin 256, lhs (ix2 k r) * rhs (ix2 k c) := by
  unfold tile
  pointwise

/-- Four lane groups added. -/
theorem fold_apply (x : FVec Ideal S1024x512 .f32) (r : Fin 1024) (l : Fin 128) :
    fold x (ix2 r l) = (x (ix2 r ⟨l, by omega⟩) + x (ix2 r ⟨128 + l, by omega⟩)) + (x (ix2 r ⟨256 + l, by omega⟩) + x (ix2 r ⟨384 + l, by omega⟩)) := by
  unfold fold
  pointwise

/-- A column tile of the features. -/
theorem colTile_apply (sc : Vec Ideal S256x8192 .bf16) (j : Fin 16) (k : Fin 256) (c : Fin 512) :
    colTile sc j (ix2 k c) = sc (ix2 k ⟨512 * j + c, by omega⟩) := by
  unfold colTile
  pointwise

/-- A column tile of the labels. -/
theorem labTile_apply (lab : Vec Ideal S1x8192 .i32) (j : Fin 16) (c : Fin 512) :
    labTile (F := Ideal) lab j (ix2 0 c) = lab (ix2 0 ⟨512 * j + c, by omega⟩) := by
  unfold labTile
  pointwise

/-- A trip's block of rows. -/
theorem rowBlock_apply (sc : Vec Ideal S256x8192 .bf16) (k : Fin k0_t1_loop.trips) (d : Fin 256) (r : Fin 1024) (h : 1024 * k.val + r.val < 8192) :
    rowBlock sc k (ix2 d r) = sc (ix2 d ⟨1024 * k + r, h⟩) := by
  unfold rowBlock
  pointwise
  refine congrArg sc (congrArg₂ ix2 (Fin.ext ?_) (Fin.ext ?_)) <;> simp [k0_off1_eq]

/-- A half of a trip's columns. -/
theorem diagTile_apply (sc : Vec Ideal S256x8192 .bf16) (k : Fin k0_t1_loop.trips) (q : Fin 2) (d : Fin 256) (c : Fin 512) (h : 1024 * k.val + 512 * q.val + c.val < 8192) :
    diagTile sc k q (ix2 d c) = sc (ix2 d ⟨1024 * k + 512 * q + c, h⟩) := by
  unfold diagTile
  pointwise
  refine congrArg sc (congrArg₂ ix2 (Fin.ext ?_) (Fin.ext ?_)) <;> simp [k0_off3_eq]

/-- A trip's labels, as a column. -/
theorem rowLab_apply (lab : Vec Ideal S1x8192 .i32) (k : Fin k0_t1_loop.trips) (r : Fin 1024) (h : 1024 * k.val + r.val < 8192) :
    rowLab (F := Ideal) lab k (ix2 r 0) = lab (ix2 0 ⟨1024 * k + r, h⟩) := by
  unfold rowLab k0_pay2
  pointwise
  refine congrArg lab (congrArg₂ ix2 (Fin.ext ?_) (Fin.ext ?_)) <;> simp [k0_off2_eq]

/-- A chunk of the labels. -/
theorem chunk_apply (lab : Vec Ideal S1x8192 .i32) (q : Fin 8) (c : Fin 1024) :
    chunk (F := Ideal) lab q (ix2 0 c) = lab (ix2 0 ⟨1024 * q + c, by omega⟩) := by
  unfold chunk
  pointwise

/-- One chunk's count of a bin. -/
def binCount (lab : IVec S1x8192 32) (q : Fin 8) (b : Fin 1024) : EReal :=
  ∑ r : Fin 1024, Scalar.select (IntOp.cmpi .eq (lab (ix2 0 ⟨1024 * q + r, by omega⟩)) (BitVec.ofNat 32 b)) 1 0

/-- The eight chunks' counts of a bin. -/
def bins (lab : IVec S1x8192 32) (b : Fin 1024) : EReal :=
  binCount lab 0 b + binCount lab 1 b + binCount lab 2 b + binCount lab 3 b + binCount lab 4 b + binCount lab 5 b + binCount lab 6 b + binCount lab 7 b

/-- A row's number of other rows with its label: its bin's count, less one. -/
def cnts (lab : IVec S1x8192 32) (k : Fin k0_t1_loop.trips) : FVec Ideal S1024x1 .f32 :=
  k0_pay75 (F := Ideal) binIdx (hist5 lab) (bit5 (F := Ideal) lab) (chunk (F := Ideal) lab 6) (chunk (F := Ideal) lab 7) (rowLab (F := Ideal) lab k)

/-- The count of a row, read. -/
theorem cnts_apply (lab : IVec S1x8192 32) (k : Fin k0_t1_loop.trips) (r : Fin 1024) (h : 1024 * k.val + r.val < 8192) :
    cnts lab k (ix2 r 0) = ∑ b : Fin 1024, Scalar.select (IntOp.cmpi .eq (lab (ix2 0 ⟨1024 * k + r, h⟩)) (BitVec.ofNat 32 b)) (bins lab b) 0 - 1 := by
  unfold cnts k0_pay75 hist5 bit5 k0_pay72 k0_pay71 k0_pay70 k0_pay73 binIdx bins binCount
  pointwise
  simp only [rowLab_apply _ _ _ h, chunk_apply]
  first | done | rfl

/-- The total a trip yields. -/
theorem total_apply (lab : IVec S1x8192 32) (k : Fin k0_t1_loop.trips) (acc : FVec Ideal S1x1 .f32) (E P : FVec Ideal S1024x128 .f32) :
    k0_pay77 (F := Ideal) binIdx (hist5 lab) (bit5 (F := Ideal) lab) (chunk (F := Ideal) lab 6) (chunk (F := Ideal) lab 7) acc (rowLab (F := Ideal) lab k) E P (ix2 0 0)
      = acc (ix2 0 0) + ∑ r : Fin 1024, if 0 < cnts lab k (ix2 r 0) then
          Ideal.div ((∑ l, P (ix2 r l)) * (Named.named (F := Ideal) κ "ln2" (φ := .f32) 0x3F317218#32 : EReal) - cnts lab k (ix2 r 0) * Ideal.log (∑ l, E (ix2 r l)))
            (cnts lab k (ix2 r 0) + Ideal.ofBits .f32 0x3089705F#32) else 0 := by
  unfold k0_pay77 k0_pay76
  change _ = acc (ix2 0 0) + ∑ r : Fin 1024, if 0 < k0_pay75 (F := Ideal) binIdx (hist5 lab) (bit5 (F := Ideal) lab) (chunk (F := Ideal) lab 6) (chunk (F := Ideal) lab 7) (rowLab (F := Ideal) lab k) (ix2 r 0) then
          Ideal.div ((∑ l, P (ix2 r l)) * (Named.named (F := Ideal) κ "ln2" (φ := .f32) 0x3F317218#32 : EReal) - k0_pay75 (F := Ideal) binIdx (hist5 lab) (bit5 (F := Ideal) lab) (chunk (F := Ideal) lab 6) (chunk (F := Ideal) lab 7) (rowLab (F := Ideal) lab k) (ix2 r 0) * Ideal.log (∑ l, E (ix2 r l)))
            (k0_pay75 (F := Ideal) binIdx (hist5 lab) (bit5 (F := Ideal) lab) (chunk (F := Ideal) lab 6) (chunk (F := Ideal) lab 7) (rowLab (F := Ideal) lab k) (ix2 r 0) + Ideal.ofBits .f32 0x3089705F#32) else 0
  generalize k0_pay75 (F := Ideal) binIdx (hist5 lab) (bit5 (F := Ideal) lab) (chunk (F := Ideal) lab 6) (chunk (F := Ideal) lab 7) (rowLab (F := Ideal) lab k) = z
  pointwise

/-- The number of valid rows a trip yields. -/
theorem valid_apply (lab : IVec S1x8192 32) (k : Fin k0_t1_loop.trips) (acc : FVec Ideal S1x1 .f32) :
    k0_pay78 (F := Ideal) binIdx (hist5 lab) (bit5 (F := Ideal) lab) (chunk (F := Ideal) lab 6) (chunk (F := Ideal) lab 7) acc (rowLab (F := Ideal) lab k) (ix2 0 0)
      = acc (ix2 0 0) + ∑ r : Fin 1024, if 0 < cnts lab k (ix2 r 0) then 1 else 0 := by
  unfold k0_pay78 k0_pay76
  change _ = acc (ix2 0 0) + ∑ r : Fin 1024, if 0 < k0_pay75 (F := Ideal) binIdx (hist5 lab) (bit5 (F := Ideal) lab) (chunk (F := Ideal) lab 6) (chunk (F := Ideal) lab 7) (rowLab (F := Ideal) lab k) (ix2 r 0) then 1 else 0
  generalize k0_pay75 (F := Ideal) binIdx (hist5 lab) (bit5 (F := Ideal) lab) (chunk (F := Ideal) lab 6) (chunk (F := Ideal) lab 7) (rowLab (F := Ideal) lab k) = z
  pointwise

/-- The result, from the last state. -/
theorem out_apply (lab : IVec S1x8192 32) (sc : FVec Ideal S256x8192 .bf16) :
    outArr (F := Ideal) lab sc (ix2 0 0) = if 0 < (state (F := Ideal) lab sc 8).2 (ix2 0 0) then
      Ideal.div (0 - (state (F := Ideal) lab sc 8).1 (ix2 0 0)) (max ((state (F := Ideal) lab sc 8).2 (ix2 0 0)) 1) else 0 := by
  unfold outArr k0_pay1 k0_pay79 k0_pay80
  pointwise

/-- The tile of equal labels. -/
theorem same_apply (rl : IVec S1024x1 32) (ct : IVec S1x512 32) (r : Fin 1024) (c : Fin 512) :
    same (F := Ideal) rl ct (ix2 r c) = BitVec.ofBool (rl (ix2 r 0) == ct (ix2 0 c)) := by
  unfold same
  pointwise
  rfl

/-- The diagonal half tile's diagonal. -/
theorem onDiag_apply (h : BitVec 32) (r : Fin 1024) (c : Fin 512) :
    onDiag rowIdx laneIdx h (ix2 r c) = BitVec.ofBool (BitVec.ofNat 32 r == BitVec.ofNat 32 c + h) := by
  unfold onDiag rowIdx laneIdx
  pointwise
  rfl

end Cert.KernelIdeal.Run

end
-- ==== Proof.Reals.lean ====
/-
  THE REAL NUMBERS BEHIND THE LOSS: what the literals stand for, the normalised rows as real numbers, the log of the sum
  of exponentials about the greatest entry, and the loss itself, as the formula both programs compute.
-/
module

public import Idealize.ShloMosaic.Lib.Pipeline.ValueKit
public import Idealize.ShloMosaic.Lib.IdealHost
public import Idealize.ShloMosaic.Lib.WordCmp

@[expose] public section

noncomputable section

open scoped BigOperators

namespace Cert.Loss

open Idealize.ShloMosaic

/-- The scale both programs multiply the features with. -/
def S : ℝ := 9520688 / 2097152

/-- The small number added to a row's number of positives. -/
def eps : ℝ := 9007199 / 9007199254740992

/-- The scale is positive. -/
theorem S_pos : 0 < S := by unfold S; norm_num
/-- The small number is positive. -/
theorem eps_pos : 0 < eps := by unfold eps; norm_num

/-- The scale's literal. -/
theorem lit_scale : Ideal.ofBits .f32 0x40914630#32 = (S : EReal) := by
  unfold S
  simp [Ideal.ofBits, Ideal.ieee, -EReal.coe_mul]; norm_num

/-- The small number's literal. -/
theorem lit_eps : Ideal.ofBits .f32 0x3089705F#32 = (eps : EReal) := by
  unfold eps
  simp [Ideal.ofBits, Ideal.ieee, -EReal.coe_mul]; norm_num

/-- Two's literal. -/
theorem lit_two : Ideal.ofBits .f32 0x40000000#32 = ((2 : ℝ) : EReal) := by
  simp [Ideal.ofBits, Ideal.ieee, -EReal.coe_mul]; norm_num

/-- Minus infinity's literal. -/
theorem lit_bot : Ideal.ofBits .f32 0xFF800000#32 = ⊥ := by
  simp [Ideal.ofBits, Ideal.ieee]

/-- A finite sum of real numbers, as extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A square is not negative. -/
theorem sq_nonneg' (x : EReal) : 0 ≤ x * x := by
  rcases le_total 0 x with h | h
  · exact mul_nonneg h h
  · rw [← neg_mul_neg]; exact mul_nonneg (EReal.neg_nonneg.2 h) (EReal.neg_nonneg.2 h)

/-- A row that is not zero, over its norm, is a row of real numbers; the kernel's scaled row is `S` times it. With an
    infinite entry the norm is infinite and both rows are zero. -/
theorem unit_real {n : ℕ} (r : Fin n → EReal) (h : ∃ k, r k ≠ 0) :
    ∃ u : Fin n → ℝ, ∀ k, Ideal.div (r k) (Ideal.sqrt (∑ q, r q * r q)) = (u k : EReal)
      ∧ r k * (Ideal.rsqrt (∑ q, r q * r q) * (S : EReal)) = ((u k * S : ℝ) : EReal) := by
  by_cases hf : ∀ k, r k ≠ ⊤ ∧ r k ≠ ⊥
  · obtain ⟨v, rfl⟩ : ∃ v : Fin n → ℝ, r = fun k => (v k : EReal) :=
      ⟨fun k => (r k).toReal, funext fun k => (EReal.coe_toReal (hf k).1 (hf k).2).symm⟩
    obtain ⟨k0, hk0⟩ := h
    have hk0' : v k0 ≠ 0 := fun e => hk0 (by simp [e])
    have hs : ∑ q, (v q : EReal) * (v q : EReal) = ((∑ q, v q * v q : ℝ) : EReal) := by
      rw [← coe_sum]; simp only [EReal.coe_mul]
    have hp : 0 < ∑ q, v q * v q :=
      Finset.sum_pos' (fun q _ => mul_self_nonneg (v q)) ⟨k0, Finset.mem_univ _, mul_self_pos.2 hk0'⟩
    have hq : Real.sqrt (∑ q, v q * v q) ≠ 0 := (Real.sqrt_pos.2 hp).ne'
    refine ⟨fun k => v k * (1 / Real.sqrt (∑ q, v q * v q)), fun k => ⟨?_, ?_⟩⟩
    · simp only [hs]
      rw [Ideal.sqrt_coe, if_neg (not_lt.2 hp.le), Ideal.div_coe hq, EReal.coe_mul]
    · simp only [hs]
      rw [Ideal.rsqrt_coe, if_neg (not_lt.2 hp.le), if_neg hp.ne', ← EReal.coe_mul, ← EReal.coe_mul]
      congr 1
      rw [one_div]; ring
  · push Not at hf
    obtain ⟨k0, hk0⟩ := hf
    have ht : r k0 * r k0 = ⊤ := by
      by_cases e : r k0 = ⊤
      · rw [e]; rfl
      · rw [hk0 e]; rfl
    have hs : ∑ q, r q * r q = ⊤ := by
      classical
      rw [← Finset.add_sum_erase _ _ (Finset.mem_univ k0), ht]
      refine EReal.top_add_of_ne_bot (ne_of_gt (lt_of_lt_of_le EReal.bot_lt_zero ?_))
      exact Finset.sum_nonneg fun q _ => sq_nonneg' _
    refine ⟨fun _ => 0, fun k => ⟨?_, ?_⟩⟩
    · rw [hs, Ideal.sqrt_top, Ideal.div, if_neg (by simp), EReal.inv_top]; simp
    · rw [hs, Ideal.rsqrt_top]; simp

/-- The base-two exponential of a similarity is the natural one of the similarity times the log of two. -/
theorem exp2_eq (s : ℝ) : Ideal.exp2 (s : EReal) = ((Real.exp (s * Real.log 2) : ℝ) : EReal) := by
  rw [Ideal.exp2_coe]
  congr 1
  show (2 : ℝ) ^ s = _
  rw [Real.rpow_def_of_pos (by norm_num), mul_comm]

/-- A similarity over the temperature `1 / (S S log 2)`. -/
theorem div_temp (d : ℝ) : Ideal.div (d : EReal) (Ideal.div 1 ((S : EReal) * (S : EReal) * Ideal.log ((2 : ℝ) : EReal)))
    = ((d * (S * S) * Real.log 2 : ℝ) : EReal) := by
  have h2 : 0 < Real.log 2 := Real.log_pos (by norm_num)
  have hp : 0 < S * S * Real.log 2 := mul_pos (mul_pos S_pos S_pos) h2
  rw [Ideal.log_coe, if_neg (by norm_num), ← EReal.coe_mul, ← EReal.coe_mul, Ideal.div_coe hp.ne', one_mul,
    Ideal.div_coe (one_div_pos.2 hp).ne', ← EReal.coe_mul]
  congr 1
  rw [one_div_one_div]; ring

/-- A selection by the bit of a decision. -/
theorem select_ofBool {α : Type} (p : Prop) [Decidable p] (x y : α) : Scalar.select (BitVec.ofBool (decide p)) x y = if p then x else y := by
  by_cases h : p <;> simp [h, Scalar.select]

variable {N : ℕ}

/-- The sum of a row's exponentials off the diagonal. -/
def expOff (i : Fin N) (s : Fin N → ℝ) : ℝ := ∑ j, if j = i then 0 else Real.exp (s j)

/-- It is positive where there is another row. -/
theorem expOff_pos (i : Fin N) (s : Fin N → ℝ) (h : ∃ j : Fin N, j ≠ i) : 0 < expOff i s := by
  obtain ⟨j, hj⟩ := h
  refine Finset.sum_pos' (fun q _ => ?_) ⟨j, Finset.mem_univ _, ?_⟩
  · split
    · exact le_rfl
    · exact (Real.exp_pos _).le
  · rw [if_neg hj]; exact Real.exp_pos _

/-- The log of the sum of exponentials about the greatest entry, the diagonal at minus infinity, is the log of the sum
    of the exponentials off the diagonal. -/
theorem lse_real (i : Fin N) (s : Fin N → ℝ) (h : ∃ j : Fin N, j ≠ i) (l : Fin N → EReal)
    (hl : ∀ j, l j = if j = i then ⊥ else (s j : EReal)) (t : EReal) (ht : t = Finset.univ.fold max ⊥ l) :
    t + Ideal.log (∑ j, Ideal.exp (l j - t)) = ((Real.log (expOff i s) : ℝ) : EReal) := by
  obtain ⟨j0, hj0⟩ := h
  have hsup : t = Finset.univ.sup l := ht
  obtain ⟨j1, -, hj1⟩ := Finset.exists_mem_eq_sup Finset.univ ⟨j0, Finset.mem_univ _⟩ l
  have hge : (s j0 : EReal) ≤ t := by
    rw [hsup]
    have := Finset.le_sup (f := l) (Finset.mem_univ j0)
    rwa [hl j0, if_neg hj0] at this
  have hj1i : j1 ≠ i := by
    intro e
    rw [hsup, hj1, hl j1, if_pos e] at hge
    exact absurd hge (by simp)
  have htr : t = (s j1 : EReal) := by rw [hsup, hj1, hl j1, if_neg hj1i]
  have hterm : ∀ j, Ideal.exp (l j - t) = (((if j = i then 0 else Real.exp (s j)) * Real.exp (-s j1) : ℝ) : EReal) := by
    intro j
    rw [htr, hl j]
    by_cases e : j = i
    · rw [if_pos e, if_pos e, zero_mul]; simp
    · rw [if_neg e, if_neg e, ← EReal.coe_sub, Ideal.exp_coe, ← Real.exp_add, sub_eq_add_neg]
  have hz := expOff_pos i s ⟨j0, hj0⟩
  simp only [hterm]
  rw [coe_sum, ← Finset.sum_mul]
  change t + Ideal.log ((expOff i s * Real.exp (-s j1) : ℝ) : EReal) = _
  have hp : 0 < expOff i s * Real.exp (-s j1) := mul_pos hz (Real.exp_pos _)
  rw [Ideal.log_coe, if_neg (not_le.2 hp), Real.log_mul hz.ne' (Real.exp_pos _).ne', Real.log_exp, htr, ← EReal.coe_add]
  congr 1
  ring

/-- The number of a row's positives. -/
def num (P : Fin N → Prop) [DecidablePred P] : ℕ := (Finset.univ.filter P).card

/-- It is the sum of ones over the positives. -/
theorem num_sum (P : Fin N → Prop) [DecidablePred P] : (∑ j, if P j then (1 : EReal) else 0) = ((num P : ℝ) : EReal) := by
  have : ∀ j, (if P j then (1 : EReal) else 0) = (((if P j then 1 else 0 : ℝ)) : EReal) := fun j => by split <;> simp
  simp only [this]
  rw [coe_sum, num, Finset.sum_boole]

/-- A row's mean log probability over its positives. -/
def rowMean (P : Fin N → Prop) [DecidablePred P] (i : Fin N) (s : Fin N → ℝ) : ℝ :=
  ((∑ j, if P j then s j else 0) - num P * Real.log (expOff i s)) * (1 / (num P + eps))

/-- The denominator is a positive number. -/
theorem den_ne (P : Fin N → Prop) [DecidablePred P] : (num P : ℝ) + eps ≠ 0 :=
  (add_pos_of_nonneg_of_pos (Nat.cast_nonneg _) eps_pos).ne'

/-- The log probabilities added over the positives. -/
theorem sum_logProb (P : Fin N → Prop) [DecidablePred P] (s : Fin N → ℝ) (L : ℝ) :
    (∑ j, if P j then s j - L else 0) = (∑ j, if P j then s j else 0) - num P * L := by
  have : ∀ j, (if P j then s j - L else 0) = (if P j then s j else 0) - (if P j then 1 else 0) * L := fun j => by split <;> simp
  simp only [this]
  rw [Finset.sum_sub_distrib, ← Finset.sum_mul, num, Finset.sum_boole]

/-- The loss: minus the mean, over the rows with a positive, of the rows' means. -/
def value (P : Fin N → Fin N → Prop) [∀ i, DecidablePred (P i)] (s : Fin N → Fin N → ℝ) : EReal :=
  if 0 < num (fun i => 0 < num (P i)) then
    Ideal.div (-∑ i, if 0 < num (P i) then ((rowMean (P i) i (s i) : ℝ) : EReal) else 0)
      ((max (num (fun i => 0 < num (P i)) : ℝ) 1 : ℝ) : EReal)
  else 0

end Cert.Loss

end
-- ==== Proof.KernelValue.lean ====
/-
  THE KERNEL'S RESULT AS THE LOSS OF REAL NUMBERS. Its scaled features are real numbers times the scale; a block's folded
  and added tiles, summed over the lanes, are sums over all 8192 columns; the diagonal taken off leaves the other
  columns; the histogram's count of a row's bin, less one, is the number of the row's positives.
-/
module

public import proofs.«01_k».proof.Proof.KernelAt
public import proofs.«01_k».proof.Proof.Reals

@[expose] public section

noncomputable section

open scoped BigOperators

namespace Cert.KernelIdeal.Run

open Cert.KernelIdeal Cert.KernelIdeal.Gen Idealize.ShloMosaic Cert.Loss

/-! ## Sums over tiles and lanes -/

/-- A sum over tiles and their entries is the sum over all of them. -/
theorem sum_tiles {M : Type*} [AddCommMonoid M] {A n L : ℕ} (hL : L = A * n) (f : Fin L → M) (g : Fin A → Fin n → M)
    (h : ∀ a c, ∀ hl : n * a.val + c.val < L, g a c = f ⟨n * a.val + c.val, hl⟩) : ∑ a, ∑ c, g a c = ∑ i, f i := by
  subst hL
  rw [← Fin.sum_mul_add_fin A n f]
  refine Finset.sum_congr rfl fun a _ => Finset.sum_congr rfl fun c _ => ?_
  have hl : n * a.val + c.val < A * n := by
    have := a.isLt; have := c.isLt
    calc n * a.val + c.val < n * a.val + n := by omega
      _ = n * (a.val + 1) := by ring
      _ ≤ n * A := Nat.mul_le_mul_left _ a.isLt
      _ = A * n := Nat.mul_comm _ _
  rw [h a c hl]
  exact congrArg f (Fin.ext (by show n * a.val + c.val = a.val * n + c.val; rw [Nat.mul_comm]))

/-- The sixteen tiles added up, read. -/
theorem total_at (f : Fin 16 → FVec Ideal S1024x128 .f32) (r : Fin 1024) (l : Fin 128) :
    total f (ix2 r l) = ∑ j, f j (ix2 r l) := by
  have : total f (ix2 r l) = 0 + (f 0 (ix2 r l) + f 1 (ix2 r l) + f 2 (ix2 r l) + f 3 (ix2 r l))
      + (f 4 (ix2 r l) + f 5 (ix2 r l) + f 6 (ix2 r l) + f 7 (ix2 r l))
      + (f 8 (ix2 r l) + f 9 (ix2 r l) + f 10 (ix2 r l) + f 11 (ix2 r l))
      + (f 12 (ix2 r l) + f 13 (ix2 r l) + f 14 (ix2 r l) + f 15 (ix2 r l)) := by
    unfold total group
    pointwise
  rw [this]
  simp only [Fin.sum_univ_succ, Fin.sum_univ_zero]
  simp only [Fin.succ_zero_eq_one, zero_add, add_zero]
  simp only [add_assoc]
  rfl

/-- A folded tile of real numbers. -/
theorem fold_real (x : FVec Ideal S1024x512 .f32) (r : Fin 1024) (t : Fin 512 → ℝ) (h : ∀ c, x (ix2 r c) = (t c : EReal))
    (l : Fin 128) : fold x (ix2 r l) = ((∑ g : Fin 4, t ⟨128 * g + l, by omega⟩ : ℝ) : EReal) := by
  rw [fold_apply, h, h, h, h, ← EReal.coe_add, ← EReal.coe_add, ← EReal.coe_add, Fin.sum_univ_four, add_assoc (t _ + t _)]
  congr 2
  · refine congrArg₂ (· + ·) (congrArg t (Fin.ext ?_)) (congrArg t (Fin.ext ?_)) <;> simp

/-- A block's accumulated tiles, summed over the lanes: the sum over all columns, less the two halves taken off. -/
theorem acc_real (A : Fin 16 → FVec Ideal S1024x512 .f32) (B C : FVec Ideal S1024x512 .f32) (r : Fin 1024)
    (t : Fin 8192 → ℝ) (b c : Fin 512 → ℝ) (hA : ∀ (j : Fin 16) (q : Fin 512), A j (ix2 r q) = (t ⟨512 * j + q, by omega⟩ : EReal))
    (hB : ∀ q, B (ix2 r q) = (b q : EReal)) (hC : ∀ q, C (ix2 r q) = (c q : EReal)) :
    ∑ l : Fin 128, subf (subf (total fun j => fold (A j)) (fold B)) (fold C) (ix2 r l)
      = ((∑ i, t i - ∑ q, b q - ∑ q, c q : ℝ) : EReal) := by
  have hfold : ∀ x : Fin 512 → ℝ, ∑ l : Fin 128, ∑ g : Fin 4, x ⟨128 * g + l, by omega⟩ = ∑ q, x q := fun x => by
    rw [Finset.sum_comm]
    exact sum_tiles (A := 4) (n := 128) (by norm_num) x _ fun _ _ _ => rfl
  have hterm : ∀ l : Fin 128, subf (subf (total fun j => fold (A j)) (fold B)) (fold C) (ix2 r l)
      = (((∑ j : Fin 16, ∑ g : Fin 4, t ⟨512 * j + (128 * g + l), by omega⟩) - (∑ g : Fin 4, b ⟨128 * g + l, by omega⟩)
          - (∑ g : Fin 4, c ⟨128 * g + l, by omega⟩) : ℝ) : EReal) := by
    intro l
    show total (fun j => fold (A j)) (ix2 r l) - fold B (ix2 r l) - fold C (ix2 r l) = _
    rw [total_at, fold_real B r b hB, fold_real C r c hC, EReal.coe_sub, EReal.coe_sub]
    refine congrArg₂ (· - ·) (congrArg₂ (· - ·) ?_ rfl) rfl
    rw [← coe_sum]
    exact Finset.sum_congr rfl fun j _ => fold_real (A j) r (fun q => t ⟨512 * j + q, by omega⟩) (hA j) l
  simp only [hterm]
  rw [coe_sum, Finset.sum_sub_distrib, Finset.sum_sub_distrib, hfold b, hfold c, Finset.sum_comm]
  refine congrArg (fun z : ℝ => ((z - ∑ q, b q - ∑ q, c q : ℝ) : EReal)) ?_
  rw [← sum_tiles (A := 16) (n := 512) (by norm_num) t (fun j q => t ⟨512 * j + q, by omega⟩) fun _ _ _ => rfl]
  exact Finset.sum_congr rfl fun j _ => hfold fun q => t ⟨512 * j + q, by omega⟩

/-! ## A block's row -/

/-- A kept tile, read. -/
theorem keep_apply (b : IVec S1024x512 1) (x : FVec Ideal S1024x512 .f32) (r : Fin 1024) (c : Fin 512) :
    keep b x (ix2 r c) = Scalar.select (b (ix2 r c)) (x (ix2 r c)) 0 := by
  unfold keep
  pointwise

/-- A tile's exponentials, read. -/
theorem exp2_at (x : FVec Ideal S1024x512 .f32) (r : Fin 1024) (c : Fin 512) :
    exp2 x (ix2 r c) = Ideal.exp2 (x (ix2 r c)) := rfl

variable (sc : FVec Ideal S256x8192 .bf16) (lab : IVec S1x8192 32) (u : Fin 8192 → Fin 256 → ℝ)

/-- The kernel's similarity of two rows: their dot product, scaled twice. -/
def sim2 (i j : Fin 8192) : ℝ := (∑ k, u i k * u j k) * (S * S)

variable {u}

/-- The rows' dot product in the scaled features. -/
theorem dot_real (hsc : ∀ k i, sc (ix2 k i) = ((u i k * S : ℝ) : EReal)) (i j : Fin 8192) :
    ∑ k, sc (ix2 k i) * sc (ix2 k j) = ((sim2 u i j : ℝ) : EReal) := by
  simp only [hsc, ← EReal.coe_mul]
  rw [coe_sum, sim2, Finset.sum_mul]
  exact congrArg _ (Finset.sum_congr rfl fun k _ => by ring)

/-- Row `r` of block `k`. -/
def row (k : Fin k0_t1_loop.trips) (r : Fin 1024) : Fin 8192 := ⟨1024 * k + r, by have : k.val < 8 := lt_of_lt_of_eq k.isLt trips_eq; omega⟩

/-- A tile's entry. -/
theorem tile_real (hsc : ∀ k i, sc (ix2 k i) = ((u i k * S : ℝ) : EReal)) (k : Fin k0_t1_loop.trips) (r : Fin 1024)
    (j : Fin 16) (q : Fin 512) :
    tile (rowBlock (F := Ideal) sc k) (colTile (F := Ideal) sc j) (ix2 r q) = ((sim2 u (row k r) ⟨512 * j + q, by omega⟩ : ℝ) : EReal) := by
  rw [tile_apply, ← dot_real sc hsc]
  refine Finset.sum_congr rfl fun d _ => ?_
  rw [rowBlock_apply sc k d r (row k r).isLt, colTile_apply]
  rfl

/-- A diagonal half's entry. -/
theorem diag_real (hsc : ∀ k i, sc (ix2 k i) = ((u i k * S : ℝ) : EReal)) (k : Fin k0_t1_loop.trips) (r : Fin 1024)
    (h : Fin 2) (q : Fin 512) :
    tile (rowBlock (F := Ideal) sc k) (diagTile (F := Ideal) sc k h) (ix2 r q) = ((sim2 u (row k r) (row k ⟨512 * h + q, by omega⟩) : ℝ) : EReal) := by
  rw [tile_apply, ← dot_real sc hsc]
  refine Finset.sum_congr rfl fun d _ => ?_
  have hb : 1024 * k.val + 512 * h.val + q.val < 8192 := by have : k.val < 8 := lt_of_lt_of_eq k.isLt trips_eq; omega
  rw [rowBlock_apply sc k d r (row k r).isLt, diagTile_apply sc k h d q hb]
  refine congrArg₂ (· * ·) rfl (congrArg sc (congrArg (ix2 d) (Fin.ext ?_)))
  show 1024 * k.val + 512 * h.val + q.val = 1024 * k.val + (512 * h.val + q.val)
  omega

/-- The diagonal's bit in a half: the row is the half's column. -/
theorem onDiag_real (h : Fin 2) (r : Fin 1024) (q : Fin 512) :
    onDiag rowIdx laneIdx (BitVec.ofNat 32 (512 * h.val)) (ix2 r q) = BitVec.ofBool (decide ((⟨512 * h + q, by omega⟩ : Fin 1024) = r)) := by
  rw [onDiag_apply]
  refine congrArg BitVec.ofBool ?_
  rw [beq_eq_decide, decide_eq_decide, ← BitVec.ofNat_add]
  constructor
  · intro e
    have := congrArg BitVec.toNat e
    simp only [BitVec.toNat_ofNat] at this
    exact Fin.ext (by show 512 * h.val + q.val = r.val; omega)
  · intro e
    have : r.val = q.val + 512 * h.val := by rw [← e]; show 512 * h.val + q.val = _; omega
    rw [this]

/-- What the two halves take off is the row's own entry. -/
theorem halves (r : Fin 1024) (g : Fin 1024 → ℝ) :
    (∑ q : Fin 512, if (⟨512 * (0 : Fin 2) + q, by omega⟩ : Fin 1024) = r then g ⟨512 * (0 : Fin 2) + q, by omega⟩ else 0)
      + (∑ q : Fin 512, if (⟨512 * (1 : Fin 2) + q, by omega⟩ : Fin 1024) = r then g ⟨512 * (1 : Fin 2) + q, by omega⟩ else 0) = g r := by
  have := sum_tiles (A := 2) (n := 512) (L := 1024) (by norm_num) (fun i => if i = r then g i else 0)
    (fun h q => if (⟨512 * h + q, by omega⟩ : Fin 1024) = r then g ⟨512 * h + q, by omega⟩ else 0) fun _ _ _ => rfl
  rw [Fin.sum_univ_two] at this
  rw [this, Finset.sum_ite_eq' Finset.univ r g, if_pos (Finset.mem_univ r)]

/-- A row's exponentials, the diagonal's taken off. -/
theorem exp_real (hsc : ∀ k i, sc (ix2 k i) = ((u i k * S : ℝ) : EReal)) (k : Fin k0_t1_loop.trips) (r : Fin 1024) :
    ∑ l, expAcc (F := Ideal) rowIdx laneIdx sc k (ix2 r l)
      = ((expOff (row k r) (fun j => sim2 u (row k r) j * Real.log 2) : ℝ) : EReal) := by
  have hd : ∀ (h : Fin 2) (q : Fin 512), keep (onDiag rowIdx laneIdx (BitVec.ofNat 32 (512 * h.val))) (exp2 (tile (rowBlock (F := Ideal) sc k) (diagTile (F := Ideal) sc k h))) (ix2 r q)
      = ((if (⟨512 * h + q, by omega⟩ : Fin 1024) = r then Real.exp (sim2 u (row k r) (row k ⟨512 * h + q, by omega⟩) * Real.log 2) else 0 : ℝ) : EReal) := by
    intro h q
    rw [keep_apply, onDiag_real, select_ofBool, exp2_at, diag_real sc hsc, exp2_eq]
    split <;> simp
  unfold expAcc
  refine (acc_real _ _ _ r (fun j => Real.exp (sim2 u (row k r) j * Real.log 2)) _ _
    (fun j q => by rw [exp2_at, tile_real sc hsc, exp2_eq]) (hd 0) (hd 1)).trans ?_
  refine congrArg _ ?_
  rw [sub_sub, halves r fun i => Real.exp (sim2 u (row k r) (row k i) * Real.log 2), expOff,
    ← Finset.add_sum_erase _ _ (Finset.mem_univ (row k r)), add_sub_cancel_left,
    ← Finset.add_sum_erase Finset.univ _ (Finset.mem_univ (row k r)), if_pos rfl, zero_add]
  exact Finset.sum_congr rfl fun j hj => by rw [if_neg (Finset.ne_of_mem_erase hj)]

/-- A row's similarities with equal labels, the diagonal's taken off. -/
theorem pos_real (hsc : ∀ k i, sc (ix2 k i) = ((u i k * S : ℝ) : EReal)) (k : Fin k0_t1_loop.trips) (r : Fin 1024) :
    ∑ l, posAcc (F := Ideal) rowIdx laneIdx lab sc k (ix2 r l)
      = ((∑ j, if lab (ix2 0 j) = lab (ix2 0 (row k r)) ∧ j ≠ row k r then sim2 u (row k r) j else 0 : ℝ) : EReal) := by
  have hd : ∀ (h : Fin 2) (q : Fin 512), keep (onDiag rowIdx laneIdx (BitVec.ofNat 32 (512 * h.val))) (tile (rowBlock (F := Ideal) sc k) (diagTile (F := Ideal) sc k h)) (ix2 r q)
      = ((if (⟨512 * h + q, by omega⟩ : Fin 1024) = r then sim2 u (row k r) (row k ⟨512 * h + q, by omega⟩) else 0 : ℝ) : EReal) := by
    intro h q
    rw [keep_apply, onDiag_real, select_ofBool, diag_real sc hsc]
    split <;> simp
  have hA : ∀ (j : Fin 16) (q : Fin 512), keep (same (F := Ideal) (rowLab (F := Ideal) lab k) (labTile (F := Ideal) lab j)) (tile (rowBlock (F := Ideal) sc k) (colTile (F := Ideal) sc j)) (ix2 r q)
      = ((if lab (ix2 0 (⟨512 * j + q, by omega⟩ : Fin 8192)) = lab (ix2 0 (row k r)) then sim2 u (row k r) ⟨512 * j + q, by omega⟩ else 0 : ℝ) : EReal) := by
    intro j q
    rw [keep_apply, same_apply, rowLab_apply lab k r (row k r).isLt, labTile_apply, beq_eq_decide, select_ofBool, tile_real sc hsc]
    show (if lab (ix2 0 (row k r)) = _ then _ else _) = _
    by_cases e : lab (ix2 0 (⟨512 * j + q, by omega⟩ : Fin 8192)) = lab (ix2 0 (row k r))
    · rw [if_pos e, if_pos e.symm]
    · rw [if_neg e, if_neg fun h => e h.symm, EReal.coe_zero]
  unfold posAcc
  refine (acc_real _ _ _ r (fun j => if lab (ix2 0 j) = lab (ix2 0 (row k r)) then sim2 u (row k r) j else 0) _ _
    hA (hd 0) (hd 1)).trans ?_
  refine congrArg _ ?_
  rw [sub_sub, halves r fun i => sim2 u (row k r) (row k i),
    ← Finset.add_sum_erase _ _ (Finset.mem_univ (row k r)), if_pos rfl, add_sub_cancel_left,
    ← Finset.add_sum_erase Finset.univ _ (Finset.mem_univ (row k r)), if_neg (fun h => h.2 rfl), zero_add]
  refine Finset.sum_congr rfl fun j hj => ?_
  have := Finset.ne_of_mem_erase hj
  by_cases e : lab (ix2 0 j) = lab (ix2 0 (row k r))
  · rw [if_pos e, if_pos ⟨e, this⟩]
  · rw [if_neg e, if_neg fun h => e h.1]

end Cert.KernelIdeal.Run

end
-- ==== Proof.KernelLoss.lean ====
/-
  THE KERNEL'S RESULT IS THE LOSS: from a row's sums (`KernelValue.lean`) and its count to the row's mean, from the eight
  trips to the sum over all rows, and from there to `Cert.Loss.value`.
-/
module

public import proofs.«01_k».proof.Proof.KernelValue

@[expose] public section

noncomputable section

open scoped BigOperators

namespace Cert.KernelIdeal.Run

open Cert.KernelIdeal Cert.KernelIdeal.Gen Idealize.ShloMosaic Cert.Loss

variable (sc : FVec Ideal S256x8192 .bf16) (lab : IVec S1x8192 32) (u : Fin 8192 → Fin 256 → ℝ)

/-- The other rows with a row's label. -/
def Mate (i j : Fin 8192) : Prop := lab (ix2 0 j) = lab (ix2 0 i) ∧ j ≠ i

instance (i : Fin 8192) : DecidablePred (Mate lab i) := fun _ => inferInstanceAs (Decidable (_ ∧ _))

/-- The rows with a row's label are its mates and itself. -/
theorem num_same (i : Fin 8192) : num (fun j => lab (ix2 0 j) = lab (ix2 0 i)) = num (Mate lab i) + 1 := by
  have : (Finset.univ.filter fun j => lab (ix2 0 j) = lab (ix2 0 i)) = insert i (Finset.univ.filter (Mate lab i)) := by
    ext j
    simp only [Finset.mem_filter, Finset.mem_univ, true_and, Finset.mem_insert, Mate]
    by_cases e : j = i
    · subst e; exact ⟨fun _ => Or.inl rfl, fun _ => rfl⟩
    · exact ⟨fun h => Or.inr ⟨h, e⟩, fun h => h.elim (fun h => absurd h e) fun h => h.1⟩
  unfold num
  rw [this, Finset.card_insert_of_notMem]
  simp [Mate]

/-- A bin's count is the number of rows with the bin's label. -/
theorem bins_eq (b : Fin 1024) : bins lab b = ∑ j : Fin 8192, if lab (ix2 0 j) = BitVec.ofNat 32 b then (1 : EReal) else 0 := by
  have h : bins lab b = ∑ q : Fin 8, binCount lab q b := by
    rw [Fin.sum_univ_eight]; rfl
  rw [h]
  unfold binCount
  refine sum_tiles (A := 8) (n := 1024) (by norm_num) _ _ fun q r hl => ?_
  rw [WordCmp.cmpi_eq_eq, select_ofBool]

/-- A row's count is its number of mates. -/
theorem cnts_real (hlab : ∀ i, (lab (ix2 0 i)).toNat < 1024) (k : Fin k0_t1_loop.trips) (r : Fin 1024) :
    cnts lab k (ix2 r 0) = ((num (Mate lab (row k r)) : ℝ) : EReal) := by
  rw [cnts_apply lab k r (row k r).isLt]
  change (∑ b : Fin 1024, Scalar.select (IntOp.cmpi .eq (lab (ix2 0 (row k r))) (BitVec.ofNat 32 b)) (bins lab b) 0) - 1 = _
  have hterm : ∀ b : Fin 1024, Scalar.select (IntOp.cmpi .eq (lab (ix2 0 (row k r))) (BitVec.ofNat 32 b)) (bins lab b) 0
      = if b = ⟨(lab (ix2 0 (row k r))).toNat, hlab _⟩ then bins lab b else 0 := by
    intro b
    rw [WordCmp.cmpi_eq_eq, select_ofBool]
    refine if_congr ⟨fun e => Fin.ext ?_, fun e => ?_⟩ rfl rfl
    · show b.val = (lab (ix2 0 (row k r))).toNat
      rw [e, BitVec.toNat_ofNat]; have := b.isLt; omega
    · rw [e, BitVec.ofNat_toNat, BitVec.setWidth_eq]
  simp only [hterm]
  rw [Finset.sum_ite_eq', if_pos (Finset.mem_univ _), bins_eq]
  simp only [BitVec.ofNat_toNat, BitVec.setWidth_eq]
  rw [num_sum (fun j => lab (ix2 0 j) = lab (ix2 0 (row k r))), num_same, ← EReal.coe_one, ← EReal.coe_sub]
  congr 1
  push_cast; ring

/-- The named number is the log of two. -/
theorem named_ln2 : (Named.named (F := Ideal) κ "ln2" (φ := .f32) 0x3F317218#32 : EReal) = ((Real.log 2 : ℝ) : EReal) := rfl

/-- The kernel's similarity over the temperature. -/
def simk (i j : Fin 8192) : ℝ := sim2 u i j * Real.log 2

/-- There is a row beside any row. -/
theorem other (i : Fin 8192) : ∃ j : Fin 8192, j ≠ i := by
  by_cases h : i = 0
  · exact ⟨1, by rw [h]; decide⟩
  · exact ⟨0, fun e => h e.symm⟩

/-- A row's contribution to the total. -/
def part (i : Fin 8192) : EReal := if 0 < num (Mate lab i) then ((rowMean (Mate lab i) i (simk u i) : ℝ) : EReal) else 0

/-- A count is positive as an extended real where it is as a number. -/
theorem coe_num_pos (n : ℕ) : (0 : EReal) < ((n : ℝ) : EReal) ↔ 0 < n := by
  rw [EReal.coe_pos, Nat.cast_pos]

variable {sc u}

/-- A trip's row contributes its mean, where it has a mate. -/
theorem part_eq (hsc : ∀ k i, sc (ix2 k i) = ((u i k * S : ℝ) : EReal)) (hlab : ∀ i, (lab (ix2 0 i)).toNat < 1024)
    (k : Fin k0_t1_loop.trips) (r : Fin 1024) :
    (if 0 < cnts lab k (ix2 r 0) then
      Ideal.div ((∑ l, posAcc (F := Ideal) rowIdx laneIdx lab sc k (ix2 r l)) * (Named.named (F := Ideal) κ "ln2" (φ := .f32) 0x3F317218#32 : EReal)
          - cnts lab k (ix2 r 0) * Ideal.log (∑ l, expAcc (F := Ideal) rowIdx laneIdx sc k (ix2 r l)))
        (cnts lab k (ix2 r 0) + Ideal.ofBits .f32 0x3089705F#32) else 0) = part lab u (row k r) := by
  rw [cnts_real lab hlab, pos_real sc lab hsc, exp_real sc hsc, named_ln2, lit_eps, part]
  refine if_congr (coe_num_pos _) ?_ rfl
  have hz := expOff_pos (row k r) (simk u (row k r)) (other _)
  change Ideal.div (_ - _ * Ideal.log ((expOff (row k r) (simk u (row k r)) : ℝ) : EReal)) _ = _
  rw [Ideal.log_coe, if_neg (not_le.2 hz), ← EReal.coe_add, Ideal.div_coe (den_ne (Mate lab (row k r))), ← EReal.coe_mul,
    ← EReal.coe_mul, ← EReal.coe_sub, ← EReal.coe_mul, rowMean, Finset.sum_mul]
  refine congrArg (fun z : ℝ => (((z - num (Mate lab (row k r)) * Real.log (expOff (row k r) (simk u (row k r)))) * (1 / (num (Mate lab (row k r)) + eps)) : ℝ) : EReal)) ?_
  refine Finset.sum_congr rfl fun j _ => ?_
  by_cases e : Mate lab (row k r) j
  · rw [if_pos e, if_pos (show _ ∧ _ from e), simk]
  · rw [if_neg e, if_neg (show ¬(_ ∧ _) from e), zero_mul]

/-- The state after `n` trips: the sums over their rows. -/
theorem state_eq (hsc : ∀ k i, sc (ix2 k i) = ((u i k * S : ℝ) : EReal)) (hlab : ∀ i, (lab (ix2 0 i)).toNat < 1024) :
    ∀ n (hn : n ≤ 8), (state (F := Ideal) lab sc n).1 (ix2 0 0) = ∑ k : Fin n, ∑ r : Fin 1024, part lab u ⟨1024 * k + r, by omega⟩
      ∧ (state (F := Ideal) lab sc n).2 (ix2 0 0)
        = ∑ k : Fin n, ∑ r : Fin 1024, if 0 < num (Mate lab ⟨1024 * k + r, by omega⟩) then (1 : EReal) else 0 := by
  intro n
  induction n with
  | zero =>
    intro _
    have h0 : (k0_pay74 (F := Ideal)) (ix2 0 0) = 0 := by unfold k0_pay74; pointwise
    exact ⟨h0.trans (Fin.sum_univ_zero _).symm, h0.trans (Fin.sum_univ_zero _).symm⟩
  | succ n ih =>
    intro hn
    have hk : n < k0_t1_loop.trips := lt_of_lt_of_eq (Nat.lt_of_succ_le hn) trips_eq.symm
    obtain ⟨h1, h2⟩ := ih (Nat.le_of_succ_le hn)
    rw [state, dif_pos hk, Fin.sum_univ_castSucc (n := n), Fin.sum_univ_castSucc (n := n)]
    constructor
    · refine (total_apply lab ⟨n, hk⟩ _ _ _).trans (congrArg₂ (· + ·) h1 (Finset.sum_congr rfl fun r _ => ?_))
      exact part_eq lab hsc hlab ⟨n, hk⟩ r
    · refine (valid_apply lab ⟨n, hk⟩ _).trans (congrArg₂ (· + ·) h2 (Finset.sum_congr rfl fun r _ => ?_))
      rw [cnts_real lab hlab]
      exact if_congr (coe_num_pos _) rfl rfl

/-- The kernel's result is the loss of its real similarities and its mates. -/
theorem out_value (hsc : ∀ k i, sc (ix2 k i) = ((u i k * S : ℝ) : EReal)) (hlab : ∀ i, (lab (ix2 0 i)).toNat < 1024) :
    outArr (F := Ideal) lab sc (ix2 0 0) = value (Mate lab) (simk u) := by
  obtain ⟨h1, h2⟩ := state_eq lab hsc hlab 8 le_rfl
  have e1 : (state (F := Ideal) lab sc 8).1 (ix2 0 0) = ∑ i, part lab u i :=
    h1.trans (sum_tiles (A := 8) (n := 1024) (by norm_num) _ _ fun _ _ _ => rfl)
  have e2 : (state (F := Ideal) lab sc 8).2 (ix2 0 0) = ((num (fun i => 0 < num (Mate lab i)) : ℝ) : EReal) :=
    (h2.trans (sum_tiles (A := 8) (n := 1024) (by norm_num) (fun i => if 0 < num (Mate lab i) then (1 : EReal) else 0) _ fun _ _ _ => rfl)).trans
      (num_sum fun i => 0 < num (Mate lab i))
  rw [out_apply, e1, e2, value]
  refine if_congr (coe_num_pos _) ?_ rfl
  rw [zero_sub, ← EReal.coe_one, ← EReal.coe_strictMono.monotone.map_max]
  rfl

end Cert.KernelIdeal.Run

end
-- ==== Proof.RefAt.lean ====
/-
  THE REFERENCE IN PIECES, each read at an index over the extended reals: the normalised features, the similarities, the
  masks, a row's log of the sum of exponentials, its mean, and the loss.
-/
module

public import proofs.«01_k».proof.Proof.Gen.ReferenceIdeal.Run
public import Idealize.ShloMosaic.Lib.Pipeline.ValueKit
public import Idealize.ShloMosaic.Lib.Pointwise
public import Idealize.ShloMosaic.Lib.ValueIdx
public import Idealize.ShloMosaic.Lib.IdealHost

@[expose] public section

set_option maxRecDepth 16384

noncomputable section

open scoped BigOperators

namespace Cert.ReferenceIdeal.Loss

open Cert.ReferenceIdeal Cert.ReferenceIdeal.Gen Cert.ReferenceIdeal.Value Idealize.ShloMosaic Idealize.ShloMosaic.TcCoe Idealize.SL.Sem

/-- The features divided by their rows' norms. -/
def unit (x : FVec Ideal S8192x256 .f32) : FVec Ideal S8192x256 .f32 :=
  Host.divf x (broadcastInDim S8192x256 ![0, 1] bcast_S8192x1_S8192x256_0_1 (Host.sqrt (broadcastInDim S8192x1 ![0] bcast_S8192_S8192x1_0 (Host.reduceAdd (mulf x x) (constant S_ .f32 0x00000000#32) reducesTo_S8192x256_S8192_d1 h_S_))))

/-- The similarities of rows, over the temperature. -/
def sims (x : FVec Ideal S8192x256 .f32) : FVec Ideal S8192x8192 .f32 :=
  Host.divf (Host.dotGeneral dot_S8192x256_S256x8192_S8192x8192_1_0_0_1_n_n none (unit x) (transpose S256x8192 [1, 0] (unit x) transposes_S8192x256_S256x8192_1_0))
    (broadcastInDim S8192x8192 ![] bcast_S_S8192x8192 (Host.divf (constant S_ .f32 0x3F800000#32) (mulf (mulf (constant S_ .f32 0x40914630#32) (constant S_ .f32 0x40914630#32)) (Host.log (constant S_ .f32 0x40000000#32)))))

/-- The diagonal. -/
def eye : IVec S8192x8192 1 :=
  cmpi .eq (addi (iotaInDim S8192x8192 32 0) (broadcastInDim S8192x8192 ![] bcast_S_S8192x8192 (constantI S_ 32 0#32))) (iotaInDim S8192x8192 32 1)

/-- Where a column's label is the row's. -/
def eqLab (a : IVec S8192 32) : IVec S8192x8192 1 :=
  cmpi .eq (broadcastInDim S8192x8192 ![0, 1] bcast_S1x8192_S8192x8192_0_1 (broadcastInDim S1x8192 ![1] bcast_S8192_S1x8192_1 a))
    (broadcastInDim S8192x8192 ![0, 1] bcast_S8192x1_S8192x8192_0_1 (broadcastInDim S8192x1 ![0] bcast_S8192_S8192x1_0 a))

/-- The positive pairs. -/
def pos (a1 a2 : IVec S8192 32) : IVec S8192x8192 1 := andi (andi (eqLab a1) (eqLab a2)) (noti eye)

/-- The similarities with minus infinity on the diagonal. -/
def logits (x : FVec Ideal S8192x256 .f32) : FVec Ideal S8192x8192 .f32 :=
  select eye (broadcastInDim S8192x8192 ![] bcast_S_S8192x8192 (id (constant S_ .f32 0xFF800000#32))) (sims x)

/-- A row's greatest entry. -/
def top (l : FVec Ideal S8192x8192 .f32) : FVec Ideal S8192x1 .f32 :=
  broadcastInDim S8192x1 ![0] bcast_S8192_S8192x1_0 (Host.reduce FloatOps.maximumf l (constant S_ .f32 0xFF800000#32) reducesTo_S8192x8192_S8192_d1 h_S_)

/-- A row's sum of exponentials about `t`. -/
def expSum (l : FVec Ideal S8192x8192 .f32) (t : FVec Ideal S8192x1 .f32) : FVec Ideal S8192 .f32 :=
  Host.reduceAdd (Host.exp (subf l (broadcastInDim S8192x8192 ![0, 1] bcast_S8192x1_S8192x8192_0_1 t))) (constant S_ .f32 0x00000000#32) reducesTo_S8192x8192_S8192_d1 h_S_

/-- A row's log of the sum of exponentials, about its greatest entry. -/
def lse (l : FVec Ideal S8192x8192 .f32) : FVec Ideal S8192x1 .f32 :=
  addf (top l) (Host.log (broadcastInDim S8192x1 ![0] bcast_S8192_S8192x1_0 (expSum l (top l))))

/-- A row's number of positives. -/
def count (p : IVec S8192x8192 1) : FVec Ideal S8192 .f32 :=
  Host.reduceAdd (uitofp .f32 p) (constant S_ .f32 0x00000000#32) reducesTo_S8192x8192_S8192_d1 h_S_

/-- A row's mean log probability over its positives. -/
def mean (l : FVec Ideal S8192x8192 .f32) (p : IVec S8192x8192 1) : FVec Ideal S8192 .f32 :=
  Host.divf (Host.reduceAdd (select p (subf l (broadcastInDim S8192x8192 ![0, 1] bcast_S8192x1_S8192x8192_0_1 (lse l))) (broadcastInDim S8192x8192 ![] bcast_S_S8192x8192 (id (constant S_ .f32 0x00000000#32)))) (constant S_ .f32 0x00000000#32) reducesTo_S8192x8192_S8192_d1 h_S_)
    (addf (count p) (broadcastInDim S8192 ![] bcast_S_S8192 (constant S_ .f32 0x3089705F#32)))

/-- The rows with a positive. -/
def valid (p : IVec S8192x8192 1) : IVec S8192 1 :=
  cmpf .ogt (count p) (broadcastInDim S8192 ![] bcast_S_S8192 (constant S_ .f32 0x00000000#32))

/-- The number of rows with a positive. -/
def nValid (p : IVec S8192x8192 1) : IVec S_ 32 :=
  Host.reduce IntOp.addi (extui 32 (valid p) natLt_1_32) (constantI S_ 32 0#32) reducesTo_S8192_S_d0 h_S_

/-- The loss. -/
def loss (l : FVec Ideal S8192x8192 .f32) (p : IVec S8192x8192 1) : FVec Ideal S_ .f32 :=
  select (cmpi .sgt (nValid p) (constantI S_ 32 0#32))
    (Host.divf (Host.negf (Host.reduceAdd (select (valid p) (mean l p) (broadcastInDim S8192 ![] bcast_S_S8192 (id (constant S_ .f32 0x00000000#32)))) (constant S_ .f32 0x00000000#32) reducesTo_S8192_S_d0 h_S_))
      (sitofp .f32 (maxsi (nValid p) (constantI S_ 32 1#32))))
    (id (constant S_ .f32 0x00000000#32))

/-- The reference's result is the loss of these pieces. -/
theorem result (m : (ℓ : Loc nD τ sig) → Buf (Elt Ideal) ℓ) (c : Dev nD) :
    res_main_v59 m c = loss (logits (m ((c.tc : Thread nD τ).loc main_arg0)))
      (pos (m ((c.tc : Thread nD τ).loc main_arg1)) (m ((c.tc : Thread nD τ).loc main_arg2))) := rfl

/-- The constant zero. -/
theorem zero_at : (id (constant S_ .f32 0x00000000#32) : FVec Ideal S_ .f32) ix0 = 0 := Ideal.ofBits_zero_f32

/-- An entry of the normalised features. -/
theorem unit_apply (x : FVec Ideal S8192x256 .f32) (i : Fin 8192) (k : Fin 256) :
    unit x (ix2 i k) = Ideal.div (x (ix2 i k)) (Ideal.sqrt (∑ q, x (ix2 i q) * x (ix2 i q))) := by
  unfold unit
  pointwise

/-- A similarity is the dot product of two rows over the temperature. -/
theorem sims_apply (x : FVec Ideal S8192x256 .f32) (i j : Fin 8192) :
    sims x (ix2 i j) = Ideal.div (∑ k, unit x (ix2 i k) * unit x (ix2 j k))
      (Ideal.div 1 (Ideal.ofBits .f32 0x40914630#32 * Ideal.ofBits .f32 0x40914630#32 * Ideal.log (Ideal.ofBits .f32 0x40000000#32))) := by
  unfold sims
  generalize unit x = u
  pointwise

/-- The diagonal's bit. -/
theorem eye_apply (i j : Fin 8192) :
    eye (ix2 i j) = IntOp.cmpi .eq (IntOp.addi (BitVec.ofNat 32 i) 0#32) (BitVec.ofNat 32 j) := by
  unfold eye
  pointwise

/-- The bit of equal labels. -/
theorem eqLab_apply (a : IVec S8192 32) (i j : Fin 8192) :
    eqLab a (ix2 i j) = IntOp.cmpi .eq (a (ix1 j)) (a (ix1 i)) := by
  unfold eqLab
  pointwise

/-- The bit of a positive pair. -/
theorem pos_apply (a1 a2 : IVec S8192 32) (i j : Fin 8192) :
    pos a1 a2 (ix2 i j) = IntOp.andi (IntOp.andi (eqLab a1 (ix2 i j)) (eqLab a2 (ix2 i j))) (~~~(eye (ix2 i j))) := by
  unfold pos
  generalize eqLab a1 = u, eqLab a2 = v, eye = w
  pointwise

/-- A logit. -/
theorem logits_apply (x : FVec Ideal S8192x256 .f32) (i j : Fin 8192) :
    logits x (ix2 i j) = Scalar.select (eye (ix2 i j)) (Ideal.ofBits .f32 0xFF800000#32) (sims x (ix2 i j)) := by
  unfold logits
  generalize sims x = u, eye = w
  pointwise
  rfl

/-- A row's greatest entry, as the maximum of its entries from minus infinity. -/
theorem top_apply (l : FVec Ideal S8192x8192 .f32) (i : Fin 8192) :
    top l (ix2 i 0) = Finset.univ.fold max (Ideal.ofBits .f32 0xFF800000#32) (fun j : Fin 8192 => l (ix2 i j)) := by
  unfold top
  pointwise

/-- A row's sum of exponentials. -/
theorem expSum_apply (l : FVec Ideal S8192x8192 .f32) (t : FVec Ideal S8192x1 .f32) (i : Fin 8192) :
    expSum l t (ix1 i) = ∑ j, Ideal.exp (l (ix2 i j) - t (ix2 i 0)) := by
  unfold expSum
  pointwise

/-- A sum of a column and the logs of a vector, read. -/
theorem lse_at (e : FVec Ideal S8192 .f32) (t : FVec Ideal S8192x1 .f32) (i : Fin 8192) :
    addf t (Host.log (broadcastInDim S8192x1 ![0] bcast_S8192_S8192x1_0 e)) (ix2 i 0) = t (ix2 i 0) + Ideal.log (e (ix1 i)) := by
  pointwise

/-- A row's log of the sum of exponentials. -/
theorem lse_apply (l : FVec Ideal S8192x8192 .f32) (i : Fin 8192) :
    lse l (ix2 i 0) = top l (ix2 i 0) + Ideal.log (expSum l (top l) (ix1 i)) := by
  unfold lse
  exact lse_at _ _ i

/-- A row's number of positives, as a sum of bits. -/
theorem count_apply (p : IVec S8192x8192 1) (i : Fin 8192) :
    count p (ix1 i) = ∑ j, FloatOps.uitofp (F := Ideal) .f32 (p (ix2 i j)) := by
  unfold count
  pointwise

/-- A row's mean. -/
theorem mean_apply (l : FVec Ideal S8192x8192 .f32) (p : IVec S8192x8192 1) (i : Fin 8192) :
    mean l p (ix1 i) = Ideal.div (∑ j, Scalar.select (p (ix2 i j)) (l (ix2 i j) - lse l (ix2 i 0)) 0)
      (count p (ix1 i) + Ideal.ofBits .f32 0x3089705F#32) := by
  unfold mean
  generalize lse l = t, count p = n
  pointwise
  simp only [zero_at]

/-- The number of valid rows, as a sum of bits. -/
theorem nValid_apply (p : IVec S8192x8192 1) :
    nValid p ix0 = Finset.univ.fold IntOp.addi 0#32 (fun i : Fin 8192 => BitVec.setWidth 32 (BitVec.ofBool (decide (0 < count p (ix1 i))))) := by
  unfold nValid valid
  generalize count p = n
  pointwise

/-- Whether a row is valid. -/
theorem valid_apply (p : IVec S8192x8192 1) (i : Fin 8192) :
    valid p (ix1 i) = BitVec.ofBool (decide (0 < count p (ix1 i))) := by
  unfold valid
  generalize count p = n
  pointwise

/-- The last operations, read, of any mask, vector and number. -/
theorem loss_at (b : IVec S8192 1) (x : FVec Ideal S8192 .f32) (n : IVec S_ 32) :
    select (cmpi .sgt n (constantI S_ 32 0#32))
      (Host.divf (Host.negf (Host.reduceAdd (select b x (broadcastInDim S8192 ![] bcast_S_S8192 (id (constant S_ .f32 0x00000000#32)))) (constant S_ .f32 0x00000000#32) reducesTo_S8192_S_d0 h_S_))
        (sitofp .f32 (maxsi n (constantI S_ 32 1#32))))
      (id (constant S_ .f32 0x00000000#32)) ix0
      = Scalar.select (IntOp.cmpi .sgt (n ix0) 0#32)
      (Ideal.div (-∑ i, Scalar.select (b (ix1 i)) (x (ix1 i)) 0)
        (FloatOps.sitofp (F := Ideal) .f32 (IntOp.maxsi (n ix0) 1#32))) 0 := by
  pointwise
  simp only [zero_at]

/-- The loss. -/
theorem loss_apply (l : FVec Ideal S8192x8192 .f32) (p : IVec S8192x8192 1) :
    loss l p ix0 = Scalar.select (IntOp.cmpi .sgt (nValid p ix0) 0#32)
      (Ideal.div (-∑ i, Scalar.select (valid p (ix1 i)) (mean l p (ix1 i)) 0)
        (FloatOps.sitofp (F := Ideal) .f32 (IntOp.maxsi (nValid p ix0) 1#32))) 0 := by
  unfold loss
  exact loss_at _ _ _

end Cert.ReferenceIdeal.Loss

end
-- ==== Proof.RefValue.lean ====
/-
  THE REFERENCE'S RESULT AS THE LOSS OF REAL NUMBERS: its logits are real similarities with minus infinity on the
  diagonal, its mask is the positive pairs, and so its result is `Cert.Loss.value` of them.
-/
module

public import proofs.«01_k».proof.Proof.RefAt
public import proofs.«01_k».proof.Proof.Reals
public import Idealize.ShloMosaic.Lib.IndicatorCount

@[expose] public section

noncomputable section

open scoped BigOperators

namespace Cert.ReferenceIdeal.Loss

open Cert.ReferenceIdeal Idealize.ShloMosaic Cert.Loss

variable (l : FVec Ideal S8192x8192 .f32) (p : IVec S8192x8192 1) (P : Fin 8192 → Fin 8192 → Prop) [∀ i, DecidablePred (P i)]
  (s : Fin 8192 → Fin 8192 → ℝ)

/-- There is a row beside any row. -/
theorem other (i : Fin 8192) : ∃ j : Fin 8192, j ≠ i := by
  by_cases h : i = 0
  · exact ⟨1, by rw [h]; decide⟩
  · exact ⟨0, fun e => h e.symm⟩

include P in
/-- A row's count is its number of positives. -/
theorem count_value (hp : ∀ i j, p (ix2 i j) = BitVec.ofBool (decide (P i j))) (i : Fin 8192) :
    count p (ix1 i) = ((num (P i) : ℝ) : EReal) := by
  rw [count_apply, ← num_sum]
  refine Finset.sum_congr rfl fun j _ => ?_
  rw [hp]
  by_cases h : P i j
  · rw [if_pos h, decide_eq_true h]
    show (((BitVec.ofBool true).toNat : ℝ) : EReal) = 1
    simp
  · rw [if_neg h, decide_eq_false h]
    show (((BitVec.ofBool false).toNat : ℝ) : EReal) = 0
    simp

/-- A count is positive as an extended real where it is as a number. -/
theorem positive_iff (n : ℕ) : decide ((0 : EReal) < ((n : ℝ) : EReal)) = decide (0 < n) := by
  rw [decide_eq_decide, EReal.coe_pos, Nat.cast_pos]

include P in
/-- A row is valid where it has a positive. -/
theorem valid_value (hp : ∀ i j, p (ix2 i j) = BitVec.ofBool (decide (P i j))) (i : Fin 8192) :
    valid p (ix1 i) = BitVec.ofBool (decide (0 < num (P i))) := by
  rw [valid_apply, count_value p P hp, positive_iff]

include P in
/-- The number of valid rows, as a word. -/
theorem nValid_value (hp : ∀ i j, p (ix2 i j) = BitVec.ofBool (decide (P i j))) :
    nValid p ix0 = BitVec.ofNat 32 (num fun i => 0 < num (P i)) := by
  rw [nValid_apply, IndicatorCount.fold_addi_setWidth_eq_card (fun i : Fin 8192 => BitVec.ofBool (decide (0 < count p (ix1 i))))]
  refine congrArg (BitVec.ofNat 32) (congrArg Finset.card (Finset.filter_congr fun i _ => ?_))
  rw [count_value p P hp, positive_iff]
  by_cases h : 0 < num (P i)
  · exact ⟨fun _ => h, fun _ => by rw [decide_eq_true h]; rfl⟩
  · exact ⟨fun e => absurd (by rw [decide_eq_false h] at e; exact e) (by decide), fun e => absurd e h⟩

/-- A row's log of the sum of exponentials. -/
theorem lse_value (hl : ∀ i j, l (ix2 i j) = if j = i then ⊥ else (s i j : EReal)) (i : Fin 8192) :
    lse l (ix2 i 0) = ((Real.log (expOff i (s i)) : ℝ) : EReal) := by
  rw [lse_apply, expSum_apply]
  exact lse_real i (s i) (other i) (fun j => l (ix2 i j)) (hl i) (top l (ix2 i 0)) (by rw [top_apply, lit_bot])

/-- A row's mean. -/
theorem mean_value (hl : ∀ i j, l (ix2 i j) = if j = i then ⊥ else (s i j : EReal))
    (hp : ∀ i j, p (ix2 i j) = BitVec.ofBool (decide (P i j))) (hP : ∀ i, ¬ P i i) (i : Fin 8192) :
    mean l p (ix1 i) = ((rowMean (P i) i (s i) : ℝ) : EReal) := by
  rw [mean_apply, count_value p P hp, lse_value l s hl, lit_eps, ← EReal.coe_add, Ideal.div_coe (den_ne (P i))]
  have : ∀ j, Scalar.select (p (ix2 i j)) (l (ix2 i j) - ((Real.log (expOff i (s i)) : ℝ) : EReal)) 0
      = ((if P i j then s i j - Real.log (expOff i (s i)) else 0 : ℝ) : EReal) := by
    intro j
    rw [hp, select_ofBool]
    by_cases h : P i j
    · have hj : j ≠ i := fun e => hP i (e ▸ h)
      rw [if_pos h, if_pos h, hl, if_neg hj, EReal.coe_sub]
    · rw [if_neg h, if_neg h, EReal.coe_zero]
  simp only [this]
  rw [coe_sum, sum_logProb, ← EReal.coe_mul, rowMean]

/-- The number of rows with a positive is small. -/
theorem num_le (Q : Fin 8192 → Prop) [DecidablePred Q] : num Q ≤ 8192 :=
  (Finset.card_filter_le _ _).trans (by simp)

/-- The greater of a small number and one, as a word and as a real number. -/
theorem toInt_max (n : ℕ) (h : n ≤ 8192) : ((IntOp.maxsi (BitVec.ofNat 32 n) 1#32).toInt : ℝ) = max (n : ℝ) 1 := by
  have hn : (BitVec.ofNat 32 n).toInt = n := WordCmp.toInt_ofNat_of_lt (by omega)
  have h1 : (1#32 : BitVec 32).toInt = 1 := rfl
  have : (IntOp.maxsi (BitVec.ofNat 32 n) 1#32).toInt = max (n : ℤ) 1 := by
    unfold IntOp.maxsi
    by_cases h2 : (1 : ℤ) < n
    · rw [if_pos (by rw [BitVec.slt, hn, h1]; exact decide_eq_true h2), hn]; omega
    · rw [if_neg (by rw [BitVec.slt, hn, h1]; simpa using h2), h1]; omega
  rw [this]; push_cast; rfl

/-- The loss of such logits and such a mask. -/
theorem loss_value (hl : ∀ i j, l (ix2 i j) = if j = i then ⊥ else (s i j : EReal))
    (hp : ∀ i j, p (ix2 i j) = BitVec.ofBool (decide (P i j))) (hP : ∀ i, ¬ P i i) :
    loss l p ix0 = value P s := by
  rw [loss_apply, nValid_value p P hp]
  have hn := num_le fun i => 0 < num (P i)
  have hterm : ∀ i, Scalar.select (valid p (ix1 i)) (mean l p (ix1 i)) 0
      = if 0 < num (P i) then ((rowMean (P i) i (s i) : ℝ) : EReal) else 0 := by
    intro i
    rw [valid_value p P hp, select_ofBool, mean_value l p P s hl hp hP]
  simp only [hterm]
  have hs : (FloatOps.sitofp (F := Ideal) .f32 (IntOp.maxsi (BitVec.ofNat 32 (num fun i => 0 < num (P i))) 1#32) : EReal)
      = ((max (num (fun i => 0 < num (P i)) : ℝ) 1 : ℝ) : EReal) :=
    congrArg (fun r : ℝ => (r : EReal)) (toInt_max _ hn)
  rw [hs, WordCmp.cmpi_sgt_eq, select_ofBool, value]
  have hi : (BitVec.ofNat 32 (num fun i => 0 < num (P i))).toInt = ((num fun i => 0 < num (P i) : ℕ) : ℤ) := WordCmp.toInt_ofNat_of_lt (by omega)
  rw [hi, show (0#32 : BitVec 32).toInt = 0 from rfl]
  simp only [Nat.cast_pos]

/-- The positive pairs: equal labels, and not the row itself. -/
def Pos (a1 a2 : Fin 8192 → BitVec 32) (i j : Fin 8192) : Prop := (a1 j = a1 i ∧ a2 j = a2 i) ∧ j ≠ i

instance (a1 a2 : Fin 8192 → BitVec 32) (i : Fin 8192) : DecidablePred (Pos a1 a2 i) := fun _ => inferInstanceAs (Decidable (_ ∧ _))

/-- The similarity of two rows over the temperature. -/
def sim (u : Fin 8192 → Fin 256 → ℝ) (i j : Fin 8192) : ℝ := (∑ k, u i k * u j k) * (S * S) * Real.log 2

/-- The diagonal's bit is the equality of row and column. -/
theorem eye_value (i j : Fin 8192) : eye (ix2 i j) = BitVec.ofBool (decide (j = i)) := by
  rw [eye_apply, WordCmp.cmpi_eq_eq]
  refine congrArg BitVec.ofBool ?_
  rw [decide_eq_decide, show IntOp.addi (BitVec.ofNat 32 i) 0#32 = BitVec.ofNat 32 i from BitVec.add_zero _]
  constructor
  · intro h
    have := congrArg BitVec.toNat h
    simp only [BitVec.toNat_ofNat] at this
    exact Fin.ext (by omega)
  · rintro rfl; rfl

/-- The mask is the positive pairs. -/
theorem pos_value (a1 a2 : IVec S8192 32) (i j : Fin 8192) :
    pos a1 a2 (ix2 i j) = BitVec.ofBool (decide (Pos (fun i => a1 (ix1 i)) (fun i => a2 (ix1 i)) i j)) := by
  rw [pos_apply, eqLab_apply, eqLab_apply, eye_value, WordCmp.cmpi_eq_eq, WordCmp.cmpi_eq_eq]
  unfold Pos
  by_cases h1 : a1 (ix1 j) = a1 (ix1 i) <;> by_cases h2 : a2 (ix1 j) = a2 (ix1 i) <;> by_cases h3 : j = i <;>
    simp [h1, h2, h3, IntOp.andi]

/-- The logits are real similarities with minus infinity on the diagonal. -/
theorem logits_value (x : FVec Ideal S8192x256 .f32) (u : Fin 8192 → Fin 256 → ℝ)
    (hu : ∀ i k, Ideal.div (x (ix2 i k)) (Ideal.sqrt (∑ q, x (ix2 i q) * x (ix2 i q))) = (u i k : EReal)) (i j : Fin 8192) :
    logits x (ix2 i j) = if j = i then ⊥ else (sim u i j : EReal) := by
  rw [logits_apply, eye_value, select_ofBool, lit_bot, sims_apply]
  simp only [unit_apply, hu, ← EReal.coe_mul]
  rw [coe_sum, lit_scale, lit_two, div_temp, sim]

end Cert.ReferenceIdeal.Loss

end
-- ==== Proof.Inputs.lean ====
/-
  WHAT THE PRECONDITION SAYS, and what it gives: no row is zero, and the labels are in their ranges; so the joined label,
  sixteen times the concept plus the class, fits the kernel's 1024 bins and is one row's exactly where both labels are.
-/
module

public import proofs.«01_k».proof.Proof.Gen.Pre_inputs_ok
public import proofs.«01_k».proof.Proof.KernelLoss
public import proofs.«01_k».proof.Proof.RefValue

@[expose] public section

noncomputable section

open scoped BigOperators

namespace Cert.Inputs

open Idealize.ShloMosaic Cert.Loss

/-- A disjunction of zero bits is zero. -/
theorem fold_ori_zero {ι : Type} (f : ι → BitVec 1) (T : Finset ι) (h : ∀ k, f k = 0#1) : T.fold IntOp.ori 0#1 f = 0#1 := by
  classical
  induction T using Finset.induction_on with
  | empty => rfl
  | insert a T ha ih => rw [Finset.fold_insert ha, ih, h]; rfl

/-- The bit of a conjunction is set where both are. -/
theorem andi_one {a b : BitVec 1} (h : IntOp.andi a b = 1#1) : a = 1#1 ∧ b = 1#1 := by
  revert a b; decide

/-- The bit of a decision is set where it holds. -/
theorem of_bit {p : Prop} [Decidable p] (h : BitVec.ofBool (decide p) = 1#1) : p := by
  by_contra e
  rw [decide_eq_false e] at h
  exact absurd h (by decide)

/-- The bit of a decision is zero where it fails. -/
theorem not_bit {p : Prop} [Decidable p] (h : ¬p) : BitVec.ofBool (decide p) = 0#1 := by
  rw [decide_eq_false h]; rfl

/-- A word that is not negative and below a small bound, both signed, is below the bound as a number. -/
theorem in_range (x : BitVec 32) (n : ℕ) (hn : n < 2 ^ 31) (h0 : IntOp.cmpi .sge x 0#32 = 1#1)
    (h1 : IntOp.cmpi .slt x (BitVec.ofNat 32 n) = 1#1) : x.toNat < n := by
  rw [WordCmp.cmpi_sge_zero] at h0
  rw [WordCmp.cmpi_slt_eq] at h1
  have h0 := of_bit h0
  have h1 := of_bit h1
  rw [WordCmp.toInt_eq_toNat_of_lt_half h0, WordCmp.toInt_ofNat_of_lt hn] at h1
  exact Int.ofNat_lt.1 h1

/-- The precondition at a row. -/
theorem at_row (x : FVec Ideal Cert.Pre_inputs_ok.S8192x256 .f32) (a1 a2 : IVec Cert.Pre_inputs_ok.S8192 32) (i : Fin 8192)
    (h : Cert.Pre_inputs_ok.fn (F := Ideal) x a1 a2 (ix1 i) = 1#1) :
    (∃ k : Fin 256, x (ix2 i k) ≠ 0) ∧ (a1 (ix1 i)).toNat < 50 ∧ (a2 (ix1 i)).toNat < 10 := by
  unfold Cert.Pre_inputs_ok.fn at h
  pointwise at h
  obtain ⟨h, h2⟩ := andi_one h
  obtain ⟨h0, h1⟩ := andi_one h
  obtain ⟨h1a, h1b⟩ := andi_one h1
  obtain ⟨h2a, h2b⟩ := andi_one h2
  refine ⟨?_, in_range _ 50 (by norm_num) h1a h1b, in_range _ 10 (by norm_num) h2a h2b⟩
  by_contra e
  push Not at e
  exact absurd ((fold_ori_zero _ _ fun k => not_bit (not_not.2 (e k))).symm.trans h0) (by decide)

/-- A joined label. -/
theorem joined_apply (a1 a2 : IVec Cert.KernelIdeal.S8192 32) (j : Fin 8192) :
    Cert.KernelIdeal.Run.joined a1 a2 (ix2 0 j) = a1 (ix1 j) * 16#32 + a2 (ix1 j) := by
  unfold Cert.KernelIdeal.Run.joined
  pointwise
  rfl

/-- A joined label's number. -/
theorem joined_toNat (b1 b2 : BitVec 32) (h1 : b1.toNat < 50) (h2 : b2.toNat < 10) :
    (b1 * 16#32 + b2).toNat = b1.toNat * 16 + b2.toNat := by
  rw [BitVec.toNat_add, BitVec.toNat_mul]
  show (b1.toNat * 16 % 2 ^ 32 + b2.toNat) % 2 ^ 32 = _
  omega

/-- Two joined labels are equal where both pairs of labels are. -/
theorem joined_inj (b1 b2 c1 c2 : BitVec 32) (h1 : b1.toNat < 50) (h2 : b2.toNat < 10) (h3 : c1.toNat < 50) (h4 : c2.toNat < 10) :
    b1 * 16#32 + b2 = c1 * 16#32 + c2 ↔ b1 = c1 ∧ b2 = c2 := by
  constructor
  · intro e
    have := congrArg BitVec.toNat e
    rw [joined_toNat _ _ h1 h2, joined_toNat _ _ h3 h4] at this
    exact ⟨BitVec.eq_of_toNat_eq (by omega), BitVec.eq_of_toNat_eq (by omega)⟩
  · rintro ⟨rfl, rfl⟩; rfl

/-- The loss depends on the pairs alone. -/
theorem value_congr {N : ℕ} (P Q : Fin N → Fin N → Prop) [hP : ∀ i, DecidablePred (P i)] [hQ : ∀ i, DecidablePred (Q i)]
    (s : Fin N → Fin N → ℝ) (h : ∀ i j, P i j ↔ Q i j) : value P s = value Q s := by
  obtain rfl : P = Q := funext fun i => funext fun j => propext (h i j)
  rw [Subsingleton.elim hP hQ]

/-- On inputs of the precondition the kernel's result is the reference's. -/
theorem results_eq (x : FVec Ideal Cert.Pre_inputs_ok.S8192x256 .f32) (a1 a2 : IVec Cert.Pre_inputs_ok.S8192 32)
    (h : Cert.Pre_inputs_ok.fn (F := Ideal) x a1 a2 = fun _ => 1#1) :
    Cert.KernelIdeal.Run.outArr (F := Ideal) (Cert.KernelIdeal.Run.joined a1 a2) (Cert.KernelIdeal.Gen.k0_pay69 (F := Ideal) x) (ix2 0 0)
      = Cert.ReferenceIdeal.Loss.loss (Cert.ReferenceIdeal.Loss.logits x) (Cert.ReferenceIdeal.Loss.pos a1 a2) ix0 := by
  have hr := fun i => at_row x a1 a2 i (congrFun h (ix1 i))
  choose u hu using fun i => unit_real (fun k : Fin 256 => x (ix2 i k)) (hr i).1
  rw [Cert.ReferenceIdeal.Loss.loss_value (Cert.ReferenceIdeal.Loss.logits x) (Cert.ReferenceIdeal.Loss.pos a1 a2)
      (Cert.ReferenceIdeal.Loss.Pos (fun i => a1 (ix1 i)) (fun i => a2 (ix1 i))) (Cert.ReferenceIdeal.Loss.sim u)
      (Cert.ReferenceIdeal.Loss.logits_value x u fun i k => (hu i k).1)
      (Cert.ReferenceIdeal.Loss.pos_value a1 a2) (fun i e => e.2 rfl),
    Cert.KernelIdeal.Run.out_value (Cert.KernelIdeal.Run.joined a1 a2) (u := u)
      (fun k i => by rw [Cert.KernelIdeal.Run.scaled_apply, lit_scale]; exact (hu i k).2)
      (fun i => by
        rw [joined_apply, joined_toNat _ _ (hr i).2.1 (hr i).2.2]
        have := (hr i).2.1; have := (hr i).2.2; omega)]
  refine value_congr _ _ _ fun i j => and_congr ?_ Iff.rfl
  rw [joined_apply, joined_apply]
  exact joined_inj _ _ _ _ (hr j).2.1 (hr j).2.2 (hr i).2.1 (hr i).2.2

end Cert.Inputs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_inputs_ok
public import proofs.«01_k».proof.Proof.KernelTrip
public import proofs.«01_k».proof.Proof.KernelRun
public import proofs.«01_k».proof.Proof.KernelAt
public import proofs.«01_k».proof.Proof.KernelValue
public import proofs.«01_k».proof.Proof.KernelLoss
public import proofs.«01_k».proof.Proof.Reals
public import proofs.«01_k».proof.Proof.RefAt
public import proofs.«01_k».proof.Proof.RefValue
public import proofs.«01_k».proof.Proof.Inputs
public import Idealize.ShloMosaic.Adequacy
public import Idealize.ShloMosaic.Init

@[expose] public section

noncomputable section

namespace Cert.Proof

open Idealize.ShloMosaic Idealize.SL.Sem

/-- The reference runs, its arguments end unchanged, and it declares no semaphore, so every counter reads zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one rewrite of the idealization: the literal 0.6931472 stands for the natural logarithm of 2. -/
theorem preserves : Cert.preserves_Kernel_KernelIdeal :=
  IdealRules.named_const.statement Cert.KernelIdeal.κ "ln2" .f32 0x3F317218#32 ((Real.log 2 : ℝ) : EReal) rfl

/-- On inputs of the precondition the idealized kernel and the reference both run, leave the arguments alone, and end with
    the same loss. -/
theorem algebraic : Cert.algebraic_KernelIdeal_ReferenceIdeal_pre_inputs_ok := by
  intro m ρ m' ρ' hpre hargs
  refine ⟨fun c => Cert.ReferenceIdeal.Value.res_main_v59 m' c, ?_, Cert.ReferenceIdeal.Value.run (F := Ideal) m' ρ'⟩
  refine (θ_run Cert.KernelIdeal.defs _ _).mono (fun r h c => ⟨?_, (h c).2⟩) (Cert.KernelIdeal.Run.run (F := Ideal) m ρ)
  obtain ⟨e0, e1, e2⟩ := hargs c
  have hres : Cert.ReferenceIdeal.Value.res_main_v59 m' c = Cert.ReferenceIdeal.Loss.loss
      (Cert.ReferenceIdeal.Loss.logits (m ((c.tc : Thread Cert.KernelIdeal.nD Cert.KernelIdeal.τ).loc Cert.KernelIdeal.main_arg0)))
      (Cert.ReferenceIdeal.Loss.pos (m ((c.tc : Thread Cert.KernelIdeal.nD Cert.KernelIdeal.τ).loc Cert.KernelIdeal.main_arg1))
        (m ((c.tc : Thread Cert.KernelIdeal.nD Cert.KernelIdeal.τ).loc Cert.KernelIdeal.main_arg2))) := by
    rw [Cert.ReferenceIdeal.Loss.result m' c]
    exact congrArg₂ Cert.ReferenceIdeal.Loss.loss (congrArg Cert.ReferenceIdeal.Loss.logits e0)
      (congrArg₂ Cert.ReferenceIdeal.Loss.pos e1 e2)
  refine (h c).1.trans (Eq.trans (funext fun i => ?_) hres.symm)
  refine (Cert.Inputs.results_eq _ _ _ (hpre c)).trans (congrArg _ (funext fun a => a.elim0))

/-- Everything the certificate claims. -/
theorem claim : Cert.Claim := ⟨Cert.Kernel.Gen.facts, Cert.KernelIdeal.Gen.facts, Cert.ReferenceIdeal.Gen.facts,
  Cert.Pre_inputs_ok.Gen.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, preserves, algebraic⟩

end Cert.Proof

end
